-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1x128 : Shape := ⟨2, ![1, 128]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1x128 .f32) (main_arg2 : FVec F S1x128 .f32) (main_arg3 : FVec F S100000x128 .f32) (main_arg4 : FVec F S256x256 .f32) (main_arg5 : FVec F S256 .f32) (main_arg6 : FVec F S256x128 .f32) (main_arg7 : FVec F S128 .f32) (main_arg8 : FVec F S128x64 .f32) (main_arg9 : FVec F S64 .f32) (main_arg10 : FVec F S64x1 .f32) (main_arg11 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1x128 : Shape := ⟨2, ![1, 128]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x128 : Shape := ⟨2, ![64, 128]⟩
abbrev S1x64 : Shape := ⟨2, ![1, 64]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S8192x128 : Shape := ⟨2, ![8192, 128]⟩
abbrev S128x256 : Shape := ⟨2, ![128, 256]⟩
abbrev S1x256 : Shape := ⟨2, ![1, 256]⟩
abbrev S8192x256 : Shape := ⟨2, ![8192, 256]⟩
abbrev S8192x64 : Shape := ⟨2, ![8192, 64]⟩
abbrev S1x8192 : Shape := ⟨2, ![1, 8192]⟩
abbrev S1x1 : Shape := ⟨2, ![1, 1]⟩
abbrev S16384x1 : Shape := ⟨2, ![16384, 1]⟩

abbrev nBuf : Table → Nat
  | .hbm => 17
  | .local .tc .vmem => 14
  | .local .scVector .vmem => 2
  | _ => 0

abbrev bufTy : (tb : Table) → Fin (nBuf tb) → BufTy
  | .hbm, ⟨0, _⟩ => ⟨S16384, .i32⟩
  | .hbm, ⟨1, _⟩ => ⟨S1x128, .f32⟩
  | .hbm, ⟨2, _⟩ => ⟨S1x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x128, .f32⟩
  | .hbm, ⟨13, _⟩ => ⟨S1x64, .f32⟩
  | .hbm, ⟨14, _⟩ => ⟨S16384x128, .f32⟩
  | .hbm, ⟨15, _⟩ => ⟨S128x128, .f32⟩
  | .hbm, ⟨16, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S1x128, .f32⟩
  | .local .tc .vmem, ⟨3, _⟩ => ⟨S1x128, .f32⟩
  | .local .tc .vmem, ⟨4, _⟩ => ⟨S256x256, .f32⟩
  | .local .tc .vmem, ⟨5, _⟩ => ⟨S256, .f32⟩
  | .local .tc .vmem, ⟨6, _⟩ => ⟨S256x128, .f32⟩
  | .local .tc .vmem, ⟨7, _⟩ => ⟨S128, .f32⟩
  | .local .tc .vmem, ⟨8, _⟩ => ⟨S64x128, .f32⟩
  | .local .tc .vmem, ⟨9, _⟩ => ⟨S64, .f32⟩
  | .local .tc .vmem, ⟨10, _⟩ => ⟨S1x64, .f32⟩
  | .local .tc .vmem, ⟨11, _⟩ => ⟨S1, .f32⟩
  | .local .tc .vmem, ⟨12, _⟩ => ⟨S64x128, .f32⟩
  | .local .tc .vmem, ⟨13, _⟩ => ⟨S64x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_arg0_scv : Ref sig .scVector := ⟨.hbm, 0, rfl⟩
abbrev main_arg3_scv : Ref sig .scVector := ⟨.hbm, 3, rfl⟩
abbrev main_v2_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg11_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_21 : BitVec 32 := 512#32
  let v18 : BitVec 32 := Scalar.muli v1 c512_i32_21
  let v19 : BitVec 32 := Scalar.addi v18 c0_i32_22
  let c0_i32_25 : BitVec 32 := 0#32
  ![v19.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1x128 : Shape := ⟨2, ![1, 128]⟩
abbrev S100000x128 : Shape := ⟨2, ![100000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S1x256 : Shape := ⟨2, ![1, 256]⟩
abbrev S16384x64 : Shape := ⟨2, ![16384, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1x128, .f32⟩
  | .hbm, ⟨2, _⟩ => ⟨S1x128, .f32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S1x1, .i32⟩
  | .hbm, ⟨27, _⟩ => ⟨S16384x1, .i32⟩
  | .hbm, ⟨28, _⟩ => ⟨S16384x1, .i1⟩
  | .hbm, ⟨29, _⟩ => ⟨S16384x1, .i1⟩
  | .hbm, ⟨30, _⟩ => ⟨S_, .i1⟩
  | .hbm, ⟨31, _⟩ => ⟨S16384, .i1⟩
  | .hbm, ⟨32, _⟩ => ⟨S16384x128, .f32⟩
  | .hbm, ⟨33, _⟩ => ⟨S16384x128, .i1⟩
  | .hbm, ⟨34, _⟩ => ⟨S_, .f32⟩
  | .hbm, ⟨35, _⟩ => ⟨S16384x128, .f32⟩
  | .hbm, ⟨36, _⟩ => ⟨S16384x128, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S1, .i32⟩
  | .hbm, ⟨46, _⟩ => ⟨S_, .i32⟩
  | .hbm, ⟨47, _⟩ => ⟨S16384x1, .i32⟩
  | .hbm, ⟨48, _⟩ => ⟨S16384x1, .i1⟩
  | .hbm, ⟨49, _⟩ => ⟨S1x1, .i32⟩
  | .hbm, ⟨50, _⟩ => ⟨S16384x1, .i32⟩
  | .hbm, ⟨51, _⟩ => ⟨S16384x1, .i1⟩
  | .hbm, ⟨52, _⟩ => ⟨S16384x1, .i1⟩
  | .hbm, ⟨53, _⟩ => ⟨S_, .i1⟩
  | .hbm, ⟨54, _⟩ => ⟨S16384, .i1⟩
  | .hbm, ⟨55, _⟩ => ⟨S16384x128, .f32⟩
  | .hbm, ⟨56, _⟩ => ⟨S16384x128, .i1⟩
  | .hbm, ⟨57, _⟩ => ⟨S_, .f32⟩
  | .hbm, ⟨58, _⟩ => ⟨S16384x128, .f32⟩
  | .hbm, ⟨59, _⟩ => ⟨S16384x128, .f32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384x1, .i32⟩
  | .hbm, ⟨68, _⟩ => ⟨S1, .i32⟩
  | .hbm, ⟨69, _⟩ => ⟨S_, .i32⟩
  | .hbm, ⟨70, _⟩ => ⟨S16384x1, .i32⟩
  | .hbm, ⟨71, _⟩ => ⟨S16384x1, .i1⟩
  | .hbm, ⟨72, _⟩ => ⟨S1x1, .i32⟩
  | .hbm, ⟨73, _⟩ => ⟨S16384x1, .i32⟩
  | .hbm, ⟨74, _⟩ => ⟨S16384x1, .i1⟩
  | .hbm, ⟨75, _⟩ => ⟨S16384x1, .i1⟩
  | .hbm, ⟨76, _⟩ => ⟨S_, .i1⟩
  | .hbm, ⟨77, _⟩ => ⟨S16384, .i1⟩
  | .hbm, ⟨78, _⟩ => ⟨S16384x128, .f32⟩
  | .hbm, ⟨79, _⟩ => ⟨S16384x128, .i1⟩
  | .hbm, ⟨80, _⟩ => ⟨S_, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S_, .f32⟩
  | .hbm, ⟨90, _⟩ => ⟨S16384x256, .f32⟩
  | .hbm, ⟨91, _⟩ => ⟨S16384x256, .f32⟩
  | .hbm, ⟨92, _⟩ => ⟨S16384x128, .f32⟩
  | .hbm, ⟨93, _⟩ => ⟨S1x128, .f32⟩
  | .hbm, ⟨94, _⟩ => ⟨S16384x128, .f32⟩
  | .hbm, ⟨95, _⟩ => ⟨S16384x128, .f32⟩
  | .hbm, ⟨96, _⟩ => ⟨S_, .f32⟩
  | .hbm, ⟨97, _⟩ => ⟨S16384x128, .f32⟩
  | .hbm, ⟨98, _⟩ => ⟨S16384x128, .f32⟩
  | .hbm, ⟨99, _⟩ => ⟨S16384x64, .f32⟩
  | .hbm, ⟨100, _⟩ => ⟨S1x64, .f32⟩
  | .hbm, ⟨101, _⟩ => ⟨S16384x64, .f32⟩
  | .hbm, ⟨102, _⟩ => ⟨S16384x64, .f32⟩
  | .hbm, ⟨103, _⟩ => ⟨S_, .f32⟩
  | .hbm, ⟨104, _⟩ => ⟨S16384x64, .f32⟩
  | .hbm, ⟨105, _⟩ => ⟨S16384x64, .f32⟩
  | .hbm, ⟨106, _⟩ => ⟨S16384x1, .f32⟩
  | .hbm, ⟨107, _⟩ => ⟨S1x1, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S_, .f32⟩
  | .hbm, ⟨116, _⟩ => ⟨S16384x1, .f32⟩
  | .hbm, ⟨117, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v3 : Ref sig .tc := ⟨.hbm, 82, rfl⟩
abbrev main_v4 : Ref sig .tc := ⟨.hbm, 83, rfl⟩
abbrev main_v5 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_call3_cst : Ref sig .tc := ⟨.hbm, 89, rfl⟩
abbrev main_call3_v0 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_call4_cst : Ref sig .tc := ⟨.hbm, 96, rfl⟩
abbrev main_call4_v0 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_v19 : Ref sig .tc := ⟨.hbm, 102, rfl⟩
abbrev main_call5_cst : Ref sig .tc := ⟨.hbm, 103, rfl⟩
abbrev main_call5_v0 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_cst : Ref sig .tc := ⟨.hbm, 112, rfl⟩
abbrev main_v27 : Ref sig .tc := ⟨.hbm, 113, rfl⟩
abbrev main_v28 : Ref sig .tc := ⟨.hbm, 114, rfl⟩
abbrev main_cst_0 : Ref sig .tc := ⟨.hbm, 115, rfl⟩
abbrev main_v29 : Ref sig .tc := ⟨.hbm, 116, rfl⟩
abbrev main_v30 : Ref sig .tc := ⟨.hbm, 117, rfl⟩

abbrev nD : Nat := 1
abbrev τ : Topo := Topo.v7x

variable {F : FTy → Type} [FloatOps F]
-- ==== Proof.Setup.lean ====
/-
  What the proofs about the kernel share: the program as the SparseCore launch theorem sees it, the ghost state, the
  buffers and their windows, and the function the gather computes.

  The first call is a gather on the SparseCores: 2 cores by 16 vector subcores. Subcore `s` of core `c` takes the 512
  indices that start at `1024 * s + 512 * c`, gathers those rows of the table in four lots of 128 rows, and copies each
  lot to its place in the result. The second call is a TensorCore pipeline of two grid points over the gathered rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rec

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the pipeline's staging rounds, the transfers' counters -/

abbrev UH : Type := URounds (GSem nD τ sig) ℕ
abbrev UP : Type := URounds (GSem nD τ sig) Unit
abbrev UU : Type := UH × (UP × Counters)

/-- The machine's resources. -/
local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

variable (m : (ℓ : Loc nD τ sig) → Buf (Elt F) ℓ)

/-- The indices, the table and the gathered rows, as device `d`'s memory names them. -/
abbrev iLoc (d : Dev nD) : Loc nD τ sig := (SparseCore.T d).loc main_arg0
abbrev tLoc (d : Dev nD) : Loc nD τ sig := (SparseCore.T d).loc main_arg3
abbrev oLoc (d : Dev nD) : Loc nD τ sig := (SparseCore.T d).loc main_v2

/-- The same three as a subcore addresses them, and its two scratch buffers: a list of indices and the rows gathered. -/
abbrev iV : Memref sig .scVector .hbm S16384 .i32 := Memref.whole main_arg0_scv
abbrev tV : Memref sig .scVector .hbm S100000x128 .f32 := Memref.whole main_arg3_scv
abbrev oV : Memref sig .scVector .hbm S16384x128 .f32 := Memref.whole main_v2_scv
abbrev sV : Memref sig .scVector .vmem S512 .i32 := Memref.whole cc0_scratch0
abbrev rV : Memref sig .scVector .vmem S512x128 .f32 := Memref.whole cc0_scratch1

/-- What the proof asks of the launch memory: every index is a row of the table. -/
def PreOK : Prop := ∀ (d : Dev nD) (j : S16384.Idx), (m (iLoc d) j).toNat < 100000

/-- Row `p 0` of the result is the table's row at the `p 0`-th index. (An index beyond the table is taken modulo its
    length, so that the function is total; `PreOK` says that none is.) -/
def gath (I : S16384.Idx → BitVec 32) (t : S100000x128.Idx → Elt F .f32) : S16384x128.Idx → Elt F .f32 := fun p =>
  t fun | 0 => ⟨(I fun | 0 => p 0).toNat % 100000, Nat.mod_lt _ (by decide)⟩ | 1 => p 1

/-- Where the index is within the table, the gather reads its row. -/
theorem gath_at (I : S16384.Idx → BitVec 32) (t : S100000x128.Idx → Elt F .f32) (p : S16384x128.Idx) (i : S16384.Idx) (q : S100000x128.Idx)
    (hi : (i 0).val = (p 0).val) (hlt : (I i).toNat < 100000) (h0 : (q 0).val = (I i).toNat) (h1 : (q 1).val = (p 1).val) :
    t q = gath I t p := by
  obtain rfl : i = fun | 0 => p 0 := funext fun a => match a with | 0 => Fin.ext hi
  refine congrArg t (funext fun a => Fin.ext ?_)
  match a with
  | 0 => exact h0.trans (Nat.mod_eq_of_lt hlt).symm
  | 1 => exact h1

/-- The gathered rows on device `d`. -/
abbrev gathAt (d : Dev nD) : Buf (Elt F) (oLoc d) := gath (m (iLoc d)) (m (tLoc d))

/-! ## The windows -/

theorem idiv : 32 ∣ S16384.size 0 := ⟨512, rfl⟩
theorem odiv : 128 ∣ S16384x128.size 0 := ⟨128, rfl⟩
theorem sdiv : 4 ∣ S512.size 0 := ⟨128, rfl⟩
theorem rdiv : 4 ∣ S512x128.size 0 := ⟨128, rfl⟩

/-- The elements of the `w`-th 512 indices; of the `k`-th 128 rows of the result; of the `r`-th quarter of a scratch. -/
abbrev iSet (w : Fin 32) : Finset S16384.Idx := (Rect.part (s := S16384) (a₀ := 0) idiv w).set
abbrev oSet (k : Fin 128) : Finset S16384x128.Idx := (Rect.part (s := S16384x128) (a₀ := 0) odiv k).set
abbrev sSet (r : Fin 4) : Finset S512.Idx := (Rect.part (s := S512) (a₀ := 0) sdiv r).set
abbrev rSet (r : Fin 4) : Finset S512x128.Idx := (Rect.part (s := S512x128) (a₀ := 0) rdiv r).set

/-- The number of subcore `i` of core `c` in the order of the indices it takes, and of its `r`-th lot of rows. -/
abbrev wid (c : Fin 2) (i : Fin 16) : Fin 32 := ⟨2 * i.val + c.val, by omega⟩
abbrev lot (c : Fin 2) (i : Fin 16) (r : Fin 4) : Fin 128 := ⟨4 * (2 * i.val + c.val) + r.val, by omega⟩

/-- The share of the table that lot `k` reads through: one of 128 equal ones. -/
abbrev tq (k : Fin 128) : PosShare TreeShare := ShareLeaves.leaf 7 fullShare k

/-! ## What a subcore is handed and hands back -/

abbrev iPts (d : Dev nD) (w : Fin 32) : sProp 𝕄 := iLoc d ↦[iSet w]{fullShare} m (iLoc d)
abbrev tPts (d : Dev nD) (k : Fin 128) : sProp 𝕄 := tLoc d ↦{tq k} m (tLoc d)
abbrev oPts (d : Dev nD) (k : Fin 128) (f : Buf (Elt F) (oLoc d)) : sProp 𝕄 := oLoc d ↦[oSet k]{fullShare} f

/-- A subcore's part: its indices, its four shares of the table, its four lots of the result at contents `f`. -/
abbrev part (d : Dev nD) (c : Fin 2) (i : Fin 16) (f : Buf (Elt F) (oLoc d)) : sProp 𝕄 :=
  iprop(iPts m d (wid c i)
    ∗ (tPts m d (lot c i 0) ∗ tPts m d (lot c i 1) ∗ tPts m d (lot c i 2) ∗ tPts m d (lot c i 3))
    ∗ (oPts d (lot c i 0) f ∗ oPts d (lot c i 1) f ∗ oPts d (lot c i 2) f ∗ oPts d (lot c i 3) f))

end Cert.Proof.Rec

end
-- ==== Proof.Windows.lean ====
/-
  What one subcore of the gather works on: the windows of the index list, of the table, of the result and of its two
  scratch buffers, the semaphores it uses, and the contents each step of its run leaves, with the value of the last.
-/
module

public import proofs.«01_k».proof.Proof.Setup
public import Idealize.ShloMosaic.Lib.Pipeline.ValueKit.Geometry

@[expose] public section

noncomputable section

namespace Cert.Proof.Rec

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The core and the subcore of a grid coordinate. -/
abbrev cL (L : grid0.Coords) : Fin 2 := Fin.cast bound_zero (L 0)
abbrev iL (L : grid0.Coords) : Fin 16 := Fin.cast bound_one (L 1)

/-! ## The windows as the subcore addresses them -/

theorem inbS (r : Fin 4) : ∀ a, (![128 * r.val] : Fin 1 → Nat) a + S128.size a ≤ S512.size a := by revert r; decide
theorem inbR (r : Fin 4) : ∀ a, (![128 * r.val, 0] : Fin 2 → Nat) a + S128x128.size a ≤ S512x128.size a := by revert r; decide

abbrev iW (L : grid0.Coords) : Memref sig .scVector .hbm S512 .i32 :=
  iV.slice (Rect.unit (s := S16384) (k0_off1 L) S512.size (k0_off1_inb L)) (fun _ => rfl)
abbrev oW (L : grid0.Coords) (r : Fin 4) : Memref sig .scVector .hbm S128x128 .f32 :=
  oV.slice (Rect.unit (s := S16384x128) (k0_off2 L (BitVec.ofNat 32 (128 * r.val))) S128x128.size (k0_off2_inb L r)) (fun _ => rfl)
abbrev sW (r : Fin 4) : Memref sig .scVector .vmem S128 .i32 :=
  sV.slice (Rect.unit (s := S512) ![128 * r.val] S128.size (inbS r)) (fun _ => rfl)
abbrev rW (r : Fin 4) : Memref sig .scVector .vmem S128x128 .f32 :=
  rV.slice (Rect.unit (s := S512x128) ![128 * r.val, 0] S128x128.size (inbR r)) (fun _ => rfl)
abbrev tW : Memref sig .scVector .hbm S100000x128 .f32 :=
  tV.slice (Rect.unit (s := S100000x128) ![0, 0] S100000x128.size inb_S100000x128_S100000x128_0_0) (fun _ => rfl)

theorem set_iW : (iW L).view.set = iSet (wid (cL L) (iL L)) := by
  refine (View.set_slice_whole (main_arg0_scv : Ref sig .scVector) (Rect.unit (s := S16384) (k0_off1 L) S512.size (k0_off1_inb L))).trans (congrArg (fun R : Rect _ => R.set) ?_)
  unfold Rect.part Rect.block
  congr 1 <;> funext a
  · rw [k0_off1_eq]
    match a with
    | 0 => simp [Shape.partIx, Shape.partSize]; omega
  · match a with
    | 0 => simp [Shape.partSize]

theorem set_oW (r : Fin 4) : (oW L r).view.set = oSet (lot (cL L) (iL L) r) := by
  refine (View.set_slice_whole (main_v2_scv : Ref sig .scVector) (Rect.unit (s := S16384x128) (k0_off2 L (BitVec.ofNat 32 (128 * r.val))) S128x128.size (k0_off2_inb L r))).trans (congrArg (fun R : Rect _ => R.set) ?_)
  unfold Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_sW (r : Fin 4) : (sW r).view.set = sSet r := by
  refine (View.set_slice_whole (cc0_scratch0 : Ref sig .scVector) (Rect.unit (s := S512) ![128 * r.val] S128.size (inbS r))).trans (congrArg (fun R : Rect _ => R.set) ?_)
  unfold Rect.part Rect.block
  congr 1 <;> funext a
  · match a with
    | 0 => simp [Shape.partIx, Shape.partSize]; omega
  · match a with
    | 0 => simp [Shape.partSize]

theorem set_rW (r : Fin 4) : (rW r).view.set = rSet r := by
  refine (View.set_slice_whole (cc0_scratch1 : Ref sig .scVector) (Rect.unit (s := S512x128) ![128 * r.val, 0] S128x128.size (inbR r))).trans (congrArg (fun R : Rect _ => R.set) ?_)
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_tW : (tW).view.set = Finset.univ := by
  refine (View.set_slice_whole (main_arg3_scv : Ref sig .scVector) (Rect.unit (s := S100000x128) ![0, 0] S100000x128.size inb_S100000x128_S100000x128_0_0)).trans ?_
  exact Rect.set_eq_univ_of_whole _ fun a => ⟨by fin_cases a <;> rfl, rfl, rfl⟩

theorem pts_iW (f : Buf (Elt F) (iLoc d)) :
    ((iW L).view.loc (V d (cV L) (jV L)) ↦[(iW L).view.set]{fullShare} f : sProp 𝕄) = iLoc d ↦[iSet (wid (cL L) (iL L))]{fullShare} f := by
  rw [set_iW]
theorem pts_oW (r : Fin 4) (f : Buf (Elt F) (oLoc d)) :
    ((oW L r).view.loc (V d (cV L) (jV L)) ↦[(oW L r).view.set]{fullShare} f : sProp 𝕄) = oLoc d ↦[oSet (lot (cL L) (iL L) r)]{fullShare} f := by
  rw [set_oW]
theorem pts_tW (q : PosShare TreeShare) (f : Buf (Elt F) (tLoc d)) :
    ((tW).view.loc (V d (cV L) (jV L)) ↦[(tW).view.set]{q} f : sProp 𝕄) = tLoc d ↦{q} f := by
  rw [set_tW]

/-- A scratch buffer held whole is its four quarters. -/
theorem pts_sV (f : Buf (Elt F) ((V d (cV L) (jV L)).loc cc0_scratch0)) :
    ((V d (cV L) (jV L)).loc cc0_scratch0 ↦{fullShare} f : sProp 𝕄)
      = bigSep Finset.univ fun r : Fin 4 => (sW r).view.loc (V d (cV L) (jV L)) ↦[(sW r).view.set]{fullShare} f := by
  have h : (Finset.univ : Finset (Fin 4)).biUnion sSet = Finset.univ := Rect.biUnion_part sdiv
  have hd : ∀ i ∈ (Finset.univ : Finset (Fin 4)), ∀ j ∈ (Finset.univ : Finset (Fin 4)), i ≠ j → Disjoint (sSet i) (sSet j) :=
    fun i _ j _ e => Rect.part_disjoint sdiv e
  rw [← h]
  refine (pointsTo_biUnion Finset.univ (ℓ := (V d (cV L) (jV L)).loc cc0_scratch0) sSet hd).trans (bigSep_congr fun r _ => ?_)
  rw [set_sW]

theorem pts_rW (r : Fin 4) (f : Buf (Elt F) ((V d (cV L) (jV L)).loc cc0_scratch1)) :
    ((rW r).view.loc (V d (cV L) (jV L)) ↦[(rW r).view.set]{fullShare} f : sProp 𝕄) = (V d (cV L) (jV L)).loc cc0_scratch1 ↦[rSet r]{fullShare} f := by
  rw [set_rW]

/-- The quarters of the row scratch, each at contents of its own, are the scratch at some contents. -/
theorem join_rV (f : Fin 4 → Buf (Elt F) ((V d (cV L) (jV L)).loc cc0_scratch1)) :
    (bigSep Finset.univ fun r : Fin 4 => (rW r).view.loc (V d (cV L) (jV L)) ↦[(rW r).view.set]{fullShare} f r)
      ⊢ (iprop(∃ g, (V d (cV L) (jV L)).loc cc0_scratch1 ↦{fullShare} g) : sProp 𝕄) := by
  have h : (Finset.univ : Finset (Fin 4)).biUnion rSet = Finset.univ := Rect.biUnion_part rdiv
  have hd : ∀ i ∈ (Finset.univ : Finset (Fin 4)), ∀ j ∈ (Finset.univ : Finset (Fin 4)), i ≠ j → Disjoint (rSet i) (rSet j) :=
    fun i _ j _ e => Rect.part_disjoint rdiv e
  refine (Entails.of_eq (bigSep_congr fun r _ => pts_rW (F := F) d L r (f r))).trans ?_
  refine (pointsTo_biUnion_join (ℓ := (V d (cV L) (jV L)).loc cc0_scratch1) (q := fullShare) (Val := Elt F) Finset.univ rSet f (f 0) hd).trans ?_
  rw [h]
  iintro ⟨%g, -, Hg⟩
  iexists g; iexact Hg

/-- The row scratch held whole is its four quarters. -/
theorem pts_rV (f : Buf (Elt F) ((V d (cV L) (jV L)).loc cc0_scratch1)) :
    ((V d (cV L) (jV L)).loc cc0_scratch1 ↦{fullShare} f : sProp 𝕄)
      = bigSep Finset.univ fun r : Fin 4 => (rW r).view.loc (V d (cV L) (jV L)) ↦[(rW r).view.set]{fullShare} f := by
  have h : (Finset.univ : Finset (Fin 4)).biUnion rSet = Finset.univ := Rect.biUnion_part rdiv
  have hd : ∀ i ∈ (Finset.univ : Finset (Fin 4)), ∀ j ∈ (Finset.univ : Finset (Fin 4)), i ≠ j → Disjoint (rSet i) (rSet j) :=
    fun i _ j _ e => Rect.part_disjoint rdiv e
  rw [← h]
  refine (pointsTo_biUnion Finset.univ (ℓ := (V d (cV L) (jV L)).loc cc0_scratch1) rSet hd).trans (bigSep_congr fun r _ => ?_)
  rw [set_rW]

/-- Four conjuncts, as a conjunction over `Fin 4`. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-! ## The subcore's own semaphores and scratch buffers -/

/-- The cell of one of the subcore's DMA semaphores. -/
abbrev cell (d : Dev nD) (c : Fin τ.nSC) (i : Fin τ.nSub) (s : DmaSems sig S_) : GSem nD τ sig := (V d c i, .dma s.sem)

/-- The six semaphores the run uses are among the subcore's own. -/
theorem ownSems0_V : ∃ R : sProp 𝕄,
    (ownSems0 (V d (cV L) (jV L)) : sProp 𝕄)
      = iprop(semVal (cell d (cV L) (jV L) cc0_scoped0) 0 ∗ semVal (cell d (cV L) (jV L) cc0_scratch2) 0
          ∗ semVal (cell d (cV L) (jV L) cc0_scratch3) 0 ∗ semVal (cell d (cV L) (jV L) cc0_scratch4) 0
          ∗ semVal (cell d (cV L) (jV L) cc0_scratch5) 0 ∗ semVal (cell d (cV L) (jV L) cc0_scratch6) 0 ∗ R) := by
  have hm : ∀ s : DmaSems sig S_, (SemLoc.dma s.sem : SemLoc sig).isScoped .scVector = true → cell d (cV L) (jV L) s ∈ ownCells (V d (cV L) (jV L)) :=
    fun s h => mem_ownCells.mpr ⟨rfl, h⟩
  have hne : ∀ s s' : DmaSems sig S_, s.sem ≠ s'.sem → cell d (cV L) (jV L) s ≠ cell d (cV L) (jV L) s' := fun s s' h e => by
    simp only [cell, Prod.mk.injEq, SemLoc.dma.injEq, true_and] at e; exact h e
  unfold SparseCore.Cfg.ownSems0
  refine ⟨bigSep (((((((ownCells (V d (cV L) (jV L))).erase (cell d (cV L) (jV L) cc0_scoped0)).erase (cell d (cV L) (jV L) cc0_scratch2)).erase
    (cell d (cV L) (jV L) cc0_scratch3)).erase (cell d (cV L) (jV L) cc0_scratch4)).erase (cell d (cV L) (jV L) cc0_scratch5)).erase
    (cell d (cV L) (jV L) cc0_scratch6)) fun g => semVal g 0, ?_⟩
  rw [SparseCore.bigSep_erase' (hm cc0_scoped0 (by decide)),
    SparseCore.bigSep_erase' (Finset.mem_erase.mpr ⟨hne cc0_scratch2 cc0_scoped0 (by decide), hm cc0_scratch2 (by decide)⟩),
    SparseCore.bigSep_erase' (Finset.mem_erase.mpr ⟨hne cc0_scratch3 cc0_scratch2 (by decide), Finset.mem_erase.mpr ⟨hne cc0_scratch3 cc0_scoped0 (by decide), hm cc0_scratch3 (by decide)⟩⟩),
    SparseCore.bigSep_erase' (Finset.mem_erase.mpr ⟨hne cc0_scratch4 cc0_scratch3 (by decide), Finset.mem_erase.mpr ⟨hne cc0_scratch4 cc0_scratch2 (by decide), Finset.mem_erase.mpr ⟨hne cc0_scratch4 cc0_scoped0 (by decide), hm cc0_scratch4 (by decide)⟩⟩⟩),
    SparseCore.bigSep_erase' (Finset.mem_erase.mpr ⟨hne cc0_scratch5 cc0_scratch4 (by decide), Finset.mem_erase.mpr ⟨hne cc0_scratch5 cc0_scratch3 (by decide), Finset.mem_erase.mpr ⟨hne cc0_scratch5 cc0_scratch2 (by decide), Finset.mem_erase.mpr ⟨hne cc0_scratch5 cc0_scoped0 (by decide), hm cc0_scratch5 (by decide)⟩⟩⟩⟩),
    SparseCore.bigSep_erase' (Finset.mem_erase.mpr ⟨hne cc0_scratch6 cc0_scratch5 (by decide), Finset.mem_erase.mpr ⟨hne cc0_scratch6 cc0_scratch4 (by decide), Finset.mem_erase.mpr ⟨hne cc0_scratch6 cc0_scratch3 (by decide), Finset.mem_erase.mpr ⟨hne cc0_scratch6 cc0_scratch2 (by decide), Finset.mem_erase.mpr ⟨hne cc0_scratch6 cc0_scoped0 (by decide), hm cc0_scratch6 (by decide)⟩⟩⟩⟩⟩)]

/-- The two scratch buffers are among the subcore's own. -/
theorem ownBufs_V : ∃ R : sProp 𝕄,
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ R) := by
  have h0 := SparseCore.Cfg.mem_ownRefs_of_owner (p := Proc.scVector (cV L) (jV L)) (b := (Proc.scVector (cV L) (jV L)).devRef (cc0_scratch0 : Ref sig .scVector)) rfl
  have h1 := SparseCore.Cfg.mem_ownRefs_of_owner (p := Proc.scVector (cV L) (jV L)) (b := (Proc.scVector (cV L) (jV L)).devRef (cc0_scratch1 : Ref sig .scVector)) rfl
  have hne : (Proc.scVector (cV L) (jV L)).devRef (cc0_scratch1 : Ref sig .scVector) ≠ (Proc.scVector (cV L) (jV L)).devRef (cc0_scratch0 : Ref sig .scVector) :=
    fun e => absurd (Proc.devRef_injective _ e) (show (cc0_scratch1 : Ref sig .scVector) ≠ cc0_scratch0 by decide)
  exact ⟨_, (SparseCore.bigSep_erase' h0).trans (congrArg (fun X : sProp 𝕄 => iprop((∃ f, (V d (cV L) (jV L)).loc cc0_scratch0 ↦{fullShare} f) ∗ X))
    (SparseCore.bigSep_erase' (Finset.mem_erase.mpr ⟨hne, h1⟩)))⟩

/-! ## The list fetched and the rows gathered -/

/-- The subcore's list of indices, as the first copy leaves it. -/
abbrev lst (d : Dev nD) (L : grid0.Coords) : Buf (Elt F) ((V d (cV L) (jV L)).loc cc0_scratch0) := (iW L).view.read (Elt F) (m (iLoc d))

/-- Every entry of every quarter of the list is a row of the table. -/
theorem lst_lt (hpre : PreOK m) (r : Fin 4) (x : S128.Idx) :
    ((sW r).view.read (Elt F) (lst m d L) x).toNat < S100000x128.size gathers_S100000x128_S128x128.axis :=
  hpre d ((iW L).view.emb ((sW r).view.emb x))

/-- What the `r`-th gather brings: the table's rows at the `r`-th quarter of the list. -/
abbrev gpay (d : Dev nD) (L : grid0.Coords) (hpre : PreOK m) (r : Fin 4) : S128x128.Idx → Elt F .f32 :=
  SparseCore.gatherPayload gathers_S100000x128_S128x128 ((tW).view.read (Elt F) (m (tLoc d)))
    (SparseCore.rows ((sW r).view.read (Elt F) (lst m d L)) rfl (lst_lt m d L hpre r))

/-- The `r`-th quarter of the row scratch once its gather is in, over what the scratch held before (`fr`). -/
abbrev rowsIn (d : Dev nD) (L : grid0.Coords) (hpre : PreOK m) (fr : Buf (Elt F) ((V d (cV L) (jV L)).loc cc0_scratch1)) (r : Fin 4) :
    Buf (Elt F) ((V d (cV L) (jV L)).loc cc0_scratch1) :=
  (rW r).view.writes (Elt F) fr [⟨Rect.whole S128x128, gpay m d L hpre r⟩]

/-- The `r`-th lot of the result once that quarter is copied out. -/
abbrev rowsOut (d : Dev nD) (L : grid0.Coords) (hpre : PreOK m) (fr : Buf (Elt F) ((V d (cV L) (jV L)).loc cc0_scratch1)) (r : Fin 4) :
    Buf (Elt F) (oLoc d) :=
  (oW L r).view.writes (Elt F) (m (oLoc d)) [⟨Rect.whole S128x128, ReadAs.same.apply ((rW r).view.read (Elt F) (rowsIn m d L hpre fr r))⟩]

/-- What the `r`-th copy out delivers: its lot of the result, and the quarter of the scratch it read. -/
abbrev deliv (d : Dev nD) (L : grid0.Coords) (hpre : PreOK m) (fr : Buf (Elt F) ((V d (cV L) (jV L)).loc cc0_scratch1)) (r : Fin 4) : sProp 𝕄 :=
  iprop(((oW L r).view.loc (V d (cV L) (jV L)) ↦[(oW L r).view.set]{fullShare} rowsOut m d L hpre fr r)
    ∗ (rW r).view.loc (V d (cV L) (jV L)) ↦[(rW r).view.set]{fullShare} rowsIn m d L hpre fr r)

/-- What one copy out adds to its semaphore. -/
abbrev credit : ℕ := (rW 0).view.amount (SemLoc.dma (sig := sig) cc0_scratch6.sem)

/-- What is in the `r`-th lot of the result afterwards is the gather's value there. -/
theorem rowsOut_eq (hpre : PreOK m) (fr : Buf (Elt F) ((V d (cV L) (jV L)).loc cc0_scratch1)) (r : Fin 4) :
    ∀ i ∈ (oW L r).view.set, rowsOut m d L hpre fr r i = gathAt m d i := by
  intro i hi
  obtain ⟨x, rfl⟩ : ∃ x, (oW L r).view.emb x = i := by simpa [View.set, View.setOn] using hi
  have e1 : rowsOut m d L hpre fr r ((oW L r).view.emb x) = gpay m d L hpre r x := by
    refine (congrFun (View.read_writes_whole (oW L r).view (m (oLoc d)) _) x).trans ?_
    exact congrFun (View.read_writes_whole (rW r).view fr _) x
  rw [e1]
  have hx0 : ((x 0 : Fin _) : Nat) < 128 := (x 0).isLt
  have eo : ∀ a, (((oW L r).view.emb x a : Fin _) : Nat) = (![1024 * (L 1).val + 512 * (L 0).val + 128 * r.val, 0] : Fin 2 → Nat) a + (x a).val := fun a => by
    refine (ValueKit.view_emb_slice_whole_unit_val (main_v2_scv : Ref sig .scVector) _ _ (k0_off2_inb L r) x a).trans ?_
    exact congrArg (· + _) (congrFun (k0_off2_eq L r) a)
  obtain ⟨k, hk⟩ : ∃ k : Fin S128.numel, k = Fin.cast (by decide) (x 0) := ⟨_, rfl⟩
  have hkv : k.val = (x 0).val := by rw [hk]; rfl
  show m (tLoc d) ((tW).view.emb _) = _
  refine gath_at _ _ _ ((iW L).view.emb ((sW r).view.emb (S128.rowMajor.symm k))) _ ?_ (hpre d _) ?_ ?_
  · refine (ValueKit.view_emb_slice_whole_unit_val (main_arg0_scv : Ref sig .scVector) _ _ (k0_off1_inb L) _ 0).trans ?_
    refine Eq.trans ?_ (eo 0).symm
    refine (congrArg (_ + ·) (ValueKit.view_emb_slice_whole_unit_val (cc0_scratch0 : Ref sig .scVector) _ _ (inbS r) _ 0)).trans ?_
    refine (congrArg (· + _) (congrFun (k0_off1_eq L) 0)).trans ?_
    have hr : ((S128.rowMajor.symm k 0 : Fin _) : Nat) = (x 0).val := by
      rw [← Shape.rowMajor_val_one, Equiv.apply_symm_apply, hkv]
    show 1024 * (L 1).val + 512 * (L 0).val + (128 * r.val + ((S128.rowMajor.symm k 0 : Fin _) : Nat)) = 1024 * (L 1).val + 512 * (L 0).val + 128 * r.val + (x 0).val
    rw [hr]; omega
  · refine (ValueKit.view_emb_slice_whole_unit_val (main_arg3_scv : Ref sig .scVector) _ _ inb_S100000x128_S100000x128_0_0 _ 0).trans ?_
    refine (Nat.zero_add _).trans ((congrArg Fin.val (Shape.Gathers.idx_axis gathers_S100000x128_S128x128 _ x)).trans ?_)
    rw [hk]; rfl
  · refine (ValueKit.view_emb_slice_whole_unit_val (main_arg3_scv : Ref sig .scVector) _ _ inb_S100000x128_S100000x128_0_0 _ 1).trans ?_
    refine (Nat.zero_add _).trans ((Shape.Gathers.idx_of_ne gathers_S100000x128_S128x128 _ x 1 (by decide)).trans ?_)
    exact ((eo 1).trans (Nat.zero_add _)).symm

end Cert.Proof.Rec

end
-- ==== Proof.Tile.lean ====
/-
  One subcore's run: it copies its 512 indices in, starts four gathers of 128 table rows each, and as each gather
  arrives starts that lot's copy out to the result; all four copies out complete on one semaphore, which it waits for
  four times. Stated once, at symbolic core and subcore, with what the result holds afterwards.
-/
module

public import proofs.«01_k».proof.Proof.Windows

@[expose] public section

noncomputable section

namespace Cert.Proof.Rec

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid0.Coords)

variable [FloatOps F]

omit [FloatOps F] in
/-- A lot of the result as a copy out leaves it holds the gather's value. -/
theorem lot_done (hpre : PreOK m) (fr : Buf (Elt F) ((V d (cV L) (jV L)).loc cc0_scratch1)) (r : Fin 4) :
    ((oW L r).view.loc (V d (cV L) (jV L)) ↦[(oW L r).view.set]{fullShare} rowsOut m d L hpre fr r : sProp 𝕄)
      = oPts d (lot (cL L) (iL L) r) (gathAt m d) :=
  (pointsTo_congr (rowsOut_eq m d L hpre fr r)).trans (pts_oW d L r _)

set_option maxHeartbeats 4000000 in
/-- The run: from its part, the scratch buffers and the semaphores, to the part with the result's lots at the gather's value. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ part m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) tV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop(part m d (cL L) (iL L) (gathAt m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, ⟨Hi, ⟨Ht0, Ht1, Ht2, Ht3⟩, Ho0, Ho1, Ho2, Ho3⟩, ⟨⟨%fs, Hs⟩, ⟨%fr, Hr⟩, Hbufs⟩, ⟨HsemA, Hsem2, Hsem3, Hsem4, Hsem5, Hsem6, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (pts_iW (F := F) d L _).symm) $$ Hi
  ihave Ht0 := (Entails.of_eq (pts_tW (F := F) d L _ _).symm) $$ Ht0
  ihave Ht1 := (Entails.of_eq (pts_tW (F := F) d L _ _).symm) $$ Ht1
  ihave Ht2 := (Entails.of_eq (pts_tW (F := F) d L _ _).symm) $$ Ht2
  ihave Ht3 := (Entails.of_eq (pts_tW (F := F) d L _ _).symm) $$ Ht3
  ihave Ho0 := (Entails.of_eq (pts_oW (F := F) d L 0 _).symm) $$ Ho0
  ihave Ho1 := (Entails.of_eq (pts_oW (F := F) d L 1 _).symm) $$ Ho1
  ihave Ho2 := (Entails.of_eq (pts_oW (F := F) d L 2 _).symm) $$ Ho2
  ihave Ho3 := (Entails.of_eq (pts_oW (F := F) d L 3 _).symm) $$ Ho3
  ihave Hr := (Entails.of_eq ((pts_rV (F := F) d L _).trans (bigSep_four _))) $$ Hr
  icases Hr with ⟨Hr0, Hr1, Hr2, Hr3⟩
  ihave Hs := (Entails.of_eq (show ((V d (cV L) (jV L)).loc cc0_scratch0 ↦{fullShare} fs : sProp 𝕄) = (sV).view.loc (V d (cV L) (jV L)) ↦{fullShare} fs from rfl)) $$ Hs
  unfold cc0_gather_kernel k0_part1
  sl_exec
  ihave Hs := (Entails.of_eq (show ((sV).view.loc (V d (cV L) (jV L)) ↦{fullShare} View.write (Elt F) (sV).view fs (tile_body.sl.dma0 m d L) Finset.univ : sProp 𝕄)
      = (V d (cV L) (jV L)).loc cc0_scratch0 ↦{fullShare} lst m d L by rw [View.write_whole_univ]; rfl)) $$ Hs
  ihave Hs := (Entails.of_eq ((pts_sV (F := F) d L _).trans (bigSep_four _))) $$ Hs
  icases Hs with ⟨Hs0, Hs1, Hs2, Hs3⟩
  have h0 := lst_lt m d L hpre 0
  have h1 := lst_lt m d L hpre 1
  have h2 := lst_lt m d L hpre 2
  have h3 := lst_lt m d L hpre 3
  imod (Transfers.batch_alloc' (Lvl := ℕ) (countersEmb (U := UU)) (V d (cV L) (jV L)) (default : HIx 1) credit (deliv m d L hpre fr) (sm := .dma cc0_scratch6.sem) (E := Set.univ)) $$ Hsem6 with HB
  sl_exec
  sl_step
  ihave HB_dst0 := (Entails.of_eq (lot_done m d L hpre fr 0)) $$ HB_dst0
  ihave HB_dst1 := (Entails.of_eq (lot_done m d L hpre fr 1)) $$ HB_dst1
  ihave HB_dst2 := (Entails.of_eq (lot_done m d L hpre fr 2)) $$ HB_dst2
  ihave HB_dst3 := (Entails.of_eq (lot_done m d L hpre fr 3)) $$ HB_dst3
  isplitl [Hi Ht0 Ht1 Ht2 Ht3 HB_dst0 HB_dst1 HB_dst2 HB_dst3]
  · isplitl [Hi]; · iapply (Entails.of_eq (pts_iW (F := F) d L _)); iexact Hi
    isplitl [Ht0 Ht1 Ht2 Ht3]
    · isplitl [Ht0]; · iapply (Entails.of_eq (pts_tW (F := F) d L _ _)); iexact Ht0
      isplitl [Ht1]; · iapply (Entails.of_eq (pts_tW (F := F) d L _ _)); iexact Ht1
      isplitl [Ht2]; · iapply (Entails.of_eq (pts_tW (F := F) d L _ _)); iexact Ht2
      iapply (Entails.of_eq (pts_tW (F := F) d L _ _)); iexact Ht3
    isplitl [HB_dst0]; · iexact HB_dst0
    isplitl [HB_dst1]; · iexact HB_dst1
    isplitl [HB_dst2]; · iexact HB_dst2
    iexact HB_dst3
  isplitl [Hs0 Hs1 Hs2 Hs3 HB_src0 HB_src1 HB_src2 HB_src3 Hbufs]
  · isplitl [Hs0 Hs1 Hs2 Hs3]
    · iexists (lst m d L)
      iapply (Entails.of_eq ((pts_sV (F := F) d L _).trans (bigSep_four _)).symm)
      isplitl [Hs0]; · iexact Hs0
      isplitl [Hs1]; · iexact Hs1
      isplitl [Hs2]; · iexact Hs2
      iexact Hs3
    isplitl [HB_src0 HB_src1 HB_src2 HB_src3]
    · iapply (join_rV (F := F) d L (rowsIn m d L hpre fr))
      iapply (Entails.of_eq (bigSep_four _).symm)
      isplitl [HB_src0]; · iexact HB_src0
      isplitl [HB_src1]; · iexact HB_src1
      isplitl [HB_src2]; · iexact HB_src2
      iexact HB_src3
    iexact Hbufs
  isplitl [HsemA Hsem2 Hsem3 Hsem4 Hsem5 HB Hsems]
  · isplitl [HsemA]; · iexact HsemA
    isplitl [Hsem2]; · iexact Hsem2
    isplitl [Hsem3]; · iexact Hsem3
    isplitl [Hsem4]; · iexact Hsem4
    isplitl [Hsem5]; · iexact Hsem5
    isplitl [HB]; · iexact HB
    iexact Hsems
  iexists _; isplitr
  swap; · iexact HO
  ipureintro; intro p hp
  repeat' (first | exact .inl hp | (rcases Finset.mem_insert.mp hp with hp | hp; · exact .inr (hp ▸ rfl)))

end Cert.Proof.Rec

end
-- ==== Proof.Launch.lean ====
/-
  The gather as the launch theorem takes it: what each core's and each subcore's handshake carries, the subcore's
  obligation, how the three buffers split among the 32 subcores and come back, and the launch's ghost element.
-/
module

public import proofs.«01_k».proof.Proof.Tile
public import proofs.«01_k».proof.Proof.Gen.KernelIdeal.Launch

@[expose] public section

noncomputable section

namespace Cert.Proof.Rec

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## What the handshakes carry -/

/-- A core's part: its sixteen subcores' parts. -/
abbrev corePart (d : Dev nD) (c : Fin 2) (f : Buf (Elt F) (oLoc d)) : sProp 𝕄 :=
  bigSep Finset.univ fun i : Fin 16 => part m d c i f

/-- The call takes the cores' parts with the result as it was, and brings them back with the gathered rows. -/
def P : (K (F := F)).Pay (nD := nD) (Val := Elt F) (Name := ℕ) (U := UU) where
  st := fun q d c => match q with | 0 => corePart m d (Fin.cast nCore_zero c) (m (oLoc d))
  dn := fun q d c => match q with | 0 => corePart m d (Fin.cast nCore_zero c) (gathAt m d)
  go := fun q d c i => match q with | 0 => part m d (Fin.cast nCore_zero c) (Fin.cast nSub_zero i) (m (oLoc d))
  td := fun q d c i => match q with | 0 => part m d (Fin.cast nCore_zero c) (Fin.cast nSub_zero i) (gathAt m d)
  x := fun _ _ => iprop(emp)

instance P_storable : (P (F := F) m).IsStorable where
  st q d c := match q with
    | 0 => (inferInstance : BI.Storable (upEmb : UEmb _ 𝕄) (corePart m d (Fin.cast nCore_zero c) (m (oLoc d))))
  dn q d c := match q with
    | 0 => (inferInstance : BI.Storable (upEmb : UEmb _ 𝕄) (corePart m d (Fin.cast nCore_zero c) (gathAt m d)))
  go q d c i := match q with
    | 0 => (inferInstance : BI.Storable (upEmb : UEmb _ 𝕄) (part m d (Fin.cast nCore_zero c) (Fin.cast nSub_zero i) (m (oLoc d))))
  td q d c i := match q with
    | 0 => (inferInstance : BI.Storable (upEmb : UEmb _ 𝕄) (part m d (Fin.cast nCore_zero c) (Fin.cast nSub_zero i) (gathAt m d)))

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core hands each subcore its part, and its subcores' parts are its own. -/
theorem vecSplit : (K (F := F)).VecSplit' (P m) 0 := by
  intro d c
  show corePart m d (Fin.cast nCore_zero c) (m (oLoc d)) ⊢ |={Set.univ}=> iprop(
      (bigSep Finset.univ fun i : Fin ((K (F := F)).nSub 0) => part m d (Fin.cast nCore_zero c) (Fin.cast nSub_zero i) (m (oLoc d)))
      ∗ ((bigSep Finset.univ fun i : Fin ((K (F := F)).nSub 0) => part m d (Fin.cast nCore_zero c) (Fin.cast nSub_zero i) (gathAt m d))
          -∗ corePart m d (Fin.cast nCore_zero c) (gathAt m d)))
  rw [bigSep_subs (F := F) (fun i => part m d (Fin.cast nCore_zero c) i (m (oLoc d))),
    bigSep_subs (F := F) (fun i => part m d (Fin.cast nCore_zero c) i (gathAt m d))]
  iintro H; imodintro
  isplitl [H]; · iexact H
  iintro H; iexact H

/-! ## The buffers among the subcores -/

/-- Which 512 indices a subcore takes, as a numbering of the subcores. -/
def widEquiv : Fin 2 × Fin 16 ≃ Fin 32 :=
  Equiv.ofBijective (fun p => wid p.1 p.2) ((Fintype.bijective_iff_injective_and_card _).2
    ⟨fun p q h => by
      have := congrArg Fin.val h
      exact Prod.ext (Fin.ext (by simp only [wid] at this; omega)) (Fin.ext (by simp only [wid] at this; omega)), rfl⟩)

/-- Which 128 rows a subcore's lot is, as a numbering of the lots. -/
def lotEquiv : (Fin 2 × Fin 16) × Fin 4 ≃ Fin 128 :=
  Equiv.ofBijective (fun p => lot p.1.1 p.1.2 p.2) ((Fintype.bijective_iff_injective_and_card _).2
    ⟨fun p q h => by
      have := congrArg Fin.val h
      exact Prod.ext (Prod.ext (Fin.ext (by simp only [lot] at this; omega)) (Fin.ext (by simp only [lot] at this; omega)))
        (Fin.ext (by simp only [lot] at this; omega)), rfl⟩)

theorem by_wid (Φ : Fin 32 → sProp 𝕄) :
    bigSep Finset.univ Φ = bigSep Finset.univ fun c : Fin 2 => bigSep Finset.univ fun i : Fin 16 => Φ (wid c i) :=
  (bigSep_univ_equiv widEquiv Φ).trans (bigSep_univ_prod _)
theorem by_lot (Φ : Fin 128 → sProp 𝕄) :
    bigSep Finset.univ Φ = bigSep Finset.univ fun c : Fin 2 => bigSep Finset.univ fun i : Fin 16 =>
      iprop(Φ (lot c i 0) ∗ Φ (lot c i 1) ∗ Φ (lot c i 2) ∗ Φ (lot c i 3)) := by
  refine (bigSep_univ_equiv lotEquiv Φ).trans ((bigSep_univ_prod _).trans ((bigSep_univ_prod _).trans ?_))
  exact bigSep_congr fun c _ => bigSep_congr fun i _ => bigSep_four _

theorem iPts_split (d : Dev nD) :
    (iLoc d ↦{fullShare} m (iLoc d) : sProp 𝕄) = bigSep Finset.univ fun w : Fin 32 => iPts m d w := by
  have h : (Finset.univ : Finset (Fin 32)).biUnion iSet = Finset.univ := Rect.biUnion_part idiv
  conv_lhs => rw [← h]
  exact pointsTo_biUnion Finset.univ (ℓ := iLoc d) iSet fun i _ j _ e => Rect.part_disjoint idiv e
theorem tPts_split (d : Dev nD) :
    (tLoc d ↦{fullShare} m (tLoc d) : sProp 𝕄) = bigSep Finset.univ fun k : Fin 128 => tPts m d k :=
  ShareLeaves.pointsTo_leaves Finset.univ (m (tLoc d)) 7 fullShare
theorem oPts_split (d : Dev nD) (f : Buf (Elt F) (oLoc d)) :
    (oLoc d ↦{fullShare} f : sProp 𝕄) = bigSep Finset.univ fun k : Fin 128 => oPts d k f := by
  have h : (Finset.univ : Finset (Fin 128)).biUnion oSet = Finset.univ := Rect.biUnion_part odiv
  conv_lhs => rw [← h]
  exact pointsTo_biUnion Finset.univ (ℓ := oLoc d) oSet fun i _ j _ e => Rect.part_disjoint odiv e

/-- The three buffers whole are the two cores' parts. -/
theorem deal (d : Dev nD) (f : Buf (Elt F) (oLoc d)) :
    (iprop((iLoc d ↦{fullShare} m (iLoc d)) ∗ (tLoc d ↦{fullShare} m (tLoc d)) ∗ oLoc d ↦{fullShare} f) : sProp 𝕄)
      = bigSep Finset.univ fun c : Fin 2 => corePart m d c f := by
  rw [iPts_split m d, tPts_split m d, oPts_split d f, by_wid, by_lot, by_lot, ← bigSep_sep', ← bigSep_sep']
  exact bigSep_congr fun c _ => by rw [← bigSep_sep', ← bigSep_sep']

theorem st_eq (d : Dev nD) :
    (bigSep Finset.univ fun c : Fin ((K (F := F)).nCore 0) => (P m).st 0 d c)
      = iprop((iLoc d ↦{fullShare} m (iLoc d)) ∗ (tLoc d ↦{fullShare} m (tLoc d)) ∗ oLoc d ↦{fullShare} m (oLoc d)) :=
  (bigSep_cores (F := F) fun c => corePart m d c (m (oLoc d))).trans (deal m d _).symm
theorem dn_eq (d : Dev nD) :
    (bigSep Finset.univ fun c : Fin ((K (F := F)).nCore 0) => (P m).dn 0 d c)
      = iprop((iLoc d ↦{fullShare} m (iLoc d)) ∗ (tLoc d ↦{fullShare} m (tLoc d)) ∗ oLoc d ↦{fullShare} gathAt m d) :=
  (bigSep_cores (F := F) fun c => corePart m d c (gathAt m d)).trans (deal m d _).symm

/-! ## The launch's ghost element -/

abbrev adm : (p : Fin 1) → (pcfgs (F := F) p).Adm := fun p => (cfgs p).toPCfg_adm

/-- The handshakes' cells, the pipeline's staging cells, no transfer counted. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The ghost state of the pipeline's staging buffers on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HB⟩
  ihave H := (own_pair_emb _ _ _) $$ HB
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (show iprop((bigSep Finset.univ fun d : Dev nD => bigSep Finset.univ fun p : Fin 1 => Pipeline.cellsGhost (Pipeline.pin (pcfgs (F := F)) adm) EP p d)
        ∗ (bigSep Finset.univ fun d : Dev nD => bigSep Finset.univ fun p : Fin 1 => Pipeline.toksInit (Pipeline.pin (pcfgs (F := F)) adm) EP p d))
        ⊢ (bigSep Finset.univ fun d : Dev nD => G (F := F) d : sProp 𝕄) from
      Entails.of_eq (by
        rw [← bigSep_sep']
        exact bigSep_congr fun d _ => congrArg₂ (fun X Y : sProp 𝕄 => iprop(X ∗ Y)) (bigSep_univ_of_subsingleton (0 : Fin 1)) (bigSep_univ_of_subsingleton (0 : Fin 1))))
    isplitl [Hg] <;> iassumption
  iapply (show (BI.emp : sProp 𝕄) ⊢ bigSep Finset.univ fun thr : Thread nD τ => bigSep Finset.univ fun q : Fin 1 => (P (F := F) m).x q thr from
    Entails.of_eq (((bigSep_congr fun _ _ => bigSep_univ_of_subsingleton (0 : Fin 1)).trans (bigSep_emp_const _)).symm))
  iempintro

/-! ## The subcore's obligation -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_gather_kernel (coordsV c s) iV (Memref.isWhole_whole _) tV (Memref.isWhole_whole _) oV (Memref.isWhole_whole _)
            sV (Memref.isWhole_whole _) rV (Memref.isWhole_whole _) cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (sep_mono .rfl sep_elim_right).trans ((tile_body m d (coordsV ⟨_, hci.1⟩ ⟨_, hci.2⟩) hF hpre O W hO).trans (wp_mono frame _ _ fun _ => obl_post))

end Cert.Proof.Rec

end
-- ==== Proof.Mlp.lean ====
/-
  The TensorCore pipeline: what its body computes at a grid point, the body run once on any twelve whole staging buffers,
  the pipeline's proof data from any contents of the arrays, and the region it makes.
-/
module

public import proofs.«01_k».proof.Proof.Launch
public import Idealize.ShloMosaic.Lib.Pipeline.RegionArraysS
public import Idealize.ShloMosaic.Lib.Pipeline.FrameBody
public import Idealize.ShloMosaic.Lib.Pipeline.ValueKit
public import Idealize.ShloMosaic.Lib.VecWindow
public import proofs.«01_k».proof.Proof.Gen.KernelIdeal.Points

@[expose] public section

noncomputable section

namespace Cert.Proof.Rec

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## The body on its staging buffers -/

/-- What the body stores, from what its eleven inputs hold. -/
abbrev mlp (x : Vec F S8192x128 .f32) (g t : Vec F S1x128 .f32) (w₁ : Vec F S256x256 .f32) (b₁ : Vec F S256 .f32)
    (w₂ : Vec F S256x128 .f32) (b₂ : Vec F S128 .f32) (w₃ : Vec F S64x128 .f32) (b₃ : Vec F S64 .f32) (w₄ : Vec F S1x64 .f32)
    (b₄ : Vec F S1 .f32) : Vec F S64x128 .f32 :=
  k1_pay1 (k1_pay2 g t w₁ b₁ x w₂ b₂ w₃) b₃ w₄ b₄

/-- The body, from its eleven inputs owned and its output at anything, leaves the inputs and the output at `mlp` of them. -/
theorem body_run (c : Dev nD) (i : grid1.Coords)
    (M1 : Memref sig .tc .vmem S8192x128 .f32) (h1 : M1.IsWhole) (M2 : Memref sig .tc .vmem S1x128 .f32) (h2 : M2.IsWhole)
    (M3 : Memref sig .tc .vmem S1x128 .f32) (h3 : M3.IsWhole) (M4 : Memref sig .tc .vmem S256x256 .f32) (h4 : M4.IsWhole)
    (M5 : Memref sig .tc .vmem S256 .f32) (h5 : M5.IsWhole) (M6 : Memref sig .tc .vmem S256x128 .f32) (h6 : M6.IsWhole)
    (M7 : Memref sig .tc .vmem S128 .f32) (h7 : M7.IsWhole) (M8 : Memref sig .tc .vmem S64x128 .f32) (h8 : M8.IsWhole)
    (M9 : Memref sig .tc .vmem S64 .f32) (h9 : M9.IsWhole) (M10 : Memref sig .tc .vmem S1x64 .f32) (h10 : M10.IsWhole)
    (M11 : Memref sig .tc .vmem S1 .f32) (h11 : M11.IsWhole) (M12 : Memref sig .tc .vmem S64x128 .f32) (h12 : M12.IsWhole)
    (x : Vec F S8192x128 .f32) (g t : Vec F S1x128 .f32) (w₁ : Vec F S256x256 .f32) (b₁ : Vec F S256 .f32)
    (w₂ : Vec F S256x128 .f32) (b₂ : Vec F S128 .f32) (w₃ : Vec F S64x128 .f32) (b₃ : Vec F S64 .f32) (w₄ : Vec F S1x64 .f32)
    (b₄ : Vec F S1 .f32) (o : Vec F S64x128 .f32) (Q : PUnit → sProp 𝕄) :
    iprop(owns c.tc M1 fullShare x ∗ owns c.tc M2 fullShare g ∗ owns c.tc M3 fullShare t ∗ owns c.tc M4 fullShare w₁
        ∗ owns c.tc M5 fullShare b₁ ∗ owns c.tc M6 fullShare w₂ ∗ owns c.tc M7 fullShare b₂ ∗ owns c.tc M8 fullShare w₃
        ∗ owns c.tc M9 fullShare b₃ ∗ owns c.tc M10 fullShare w₄ ∗ owns c.tc M11 fullShare b₄ ∗ owns c.tc M12 fullShare o
        ∗ (iprop(owns c.tc M1 fullShare x ∗ owns c.tc M2 fullShare g ∗ owns c.tc M3 fullShare t ∗ owns c.tc M4 fullShare w₁
            ∗ owns c.tc M5 fullShare b₁ ∗ owns c.tc M6 fullShare w₂ ∗ owns c.tc M7 fullShare b₂ ∗ owns c.tc M8 fullShare w₃
            ∗ owns c.tc M9 fullShare b₃ ∗ owns c.tc M10 fullShare w₄ ∗ owns c.tc M11 fullShare b₄
            ∗ owns c.tc M12 fullShare (mlp x g t w₁ b₁ w₂ b₂ w₃ b₃ w₄ b₄)) -∗ Q ⟨⟩))
      ⊢ wp frame (wpE (defs₀ (F := F)) 𝒱₀ c.tc none) Set.univ
          (cc1__mlp_body (F := F) i M1 h1 M2 h2 M3 h3 M4 h4 M5 h5 M6 h6 M7 h7 M8 h8 M9 h9 M10 h10 M11 h11 M12 h12) Q := by
  unfold owns
  rw [cc1__mlp_body_eq_skeleton]; unfold cc1__mlp_body_skel
  rw [k1_part1_eq_skeleton]; unfold k1_part1_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, Hk⟩
  sl_exec
  sl_step
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  iexists _; isplitr; swap; (· iexact H12); ipureintro
  refine (View.read_writes_full M12.view f12 _ _ []).trans ?_
  rw [View.readAt_full M1.view f1, View.readAt_full M2.view f2, View.readAt_full M3.view f3, View.readAt_full M4.view f4,
    View.readAt_full M5.view f5, View.readAt_full M6.view f6, View.readAt_full M7.view f7, View.readAt_full M8.view f8,
    View.readAt_full M9.view f9, View.readAt_full M10.view f10, View.readAt_full M11.view f11, e1, e2, e3, e4, e5, e6, e7, e8, e9, e10, e11]

/-! ## The pipeline's proof data, from any contents of the buffers -/

variable (W : Dev nD → Valuation τ sig (Elt F))

/-- Window `w`'s block at point `t`: its array's contents, read through the block. -/
abbrev inBlk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the body leaves in the output's staging buffer at point `t`. -/
def outBlk (c : Dev nD) (t : Fin cfg1.N) : Vec F S64x128 .f32 :=
  mlp (inBlk W c 0 t) (inBlk W c 1 t) (inBlk W c 2 t) (inBlk W c 3 t) (inBlk W c 4 t) (inBlk W c 5 t) (inBlk W c 6 t) (inBlk W c 7 t)
    (inBlk W c 8 t) (inBlk W c 9 t) (inBlk W c 10 t)

/-- The arrays at their contents; after the body the inputs as fetched and the output at `outBlk`; nothing owed. -/
def pdats (_ : Fin 1) (c : Dev nD) : Dat τ (Elt F) (HIx 1) ℕ UU ℕ cfg1 c where
  A w := W c (Proc.devRef .tc (Pipeline.arrRef spec1 w))
  after w t := match w with
    | ⟨0, _⟩ => inBlk W c 0 t
    | ⟨1, _⟩ => inBlk W c 1 t
    | ⟨2, _⟩ => inBlk W c 2 t
    | ⟨3, _⟩ => inBlk W c 3 t
    | ⟨4, _⟩ => inBlk W c 4 t
    | ⟨5, _⟩ => inBlk W c 5 t
    | ⟨6, _⟩ => inBlk W c 6 t
    | ⟨7, _⟩ => inBlk W c 7 t
    | ⟨8, _⟩ => inBlk W c 8 t
    | ⟨9, _⟩ => inBlk W c 9 t
    | ⟨10, _⟩ => inBlk W c 10 t
    | ⟨11, _⟩ => outBlk W c t
  Φ _ := iprop(emp)
  q _ := fullShare
  owed _ := 0

/-- An input's staging buffer holds the array's block when the body runs, and after it. -/
theorem before_in (c : Dev nD) (t : Fin cfg1.N) (w : Fin cfg1.W) (hw : w ≠ 11) (d : (cfg1.win w).block.Idx → Elt F (cfg1.win w).elt) :
    (pdats W 0 c).before w t d = (pdats W 0 c).after w t := by
  fin_cases w <;> first
    | exact absurd rfl hw
    | exact ((pdats W 0 c).before_in_eq_fetched _ rfl (fun _ => rfl) (fun _ _ _ => rfl) (fun _ => by dsimp only [pdats]; rfl) t d).trans
        (by dsimp only [pdats]; rfl)

/-- The body meets the pipeline's obligation. -/
theorem body_obligation (c : Dev nD) : BodyObligation (pdats W 0 c) (defs₀ (F := F)) 𝒱₀ (none : HIx 1) Set.univ := fun t => by
  rw [bigSep_W1, bigSep_W1]
  rw [show (pdats W 0 c).owesAt none t.succ = (pdats W 0 c).owesAt none t.castSucc from rfl]
  simp only [before_in W c t _ (by decide : (0 : Fin 12) ≠ 11), before_in W c t _ (by decide : (1 : Fin 12) ≠ 11), before_in W c t _ (by decide : (2 : Fin 12) ≠ 11),
    before_in W c t _ (by decide : (3 : Fin 12) ≠ 11), before_in W c t _ (by decide : (4 : Fin 12) ≠ 11), before_in W c t _ (by decide : (5 : Fin 12) ≠ 11),
    before_in W c t _ (by decide : (6 : Fin 12) ≠ 11), before_in W c t _ (by decide : (7 : Fin 12) ≠ 11), before_in W c t _ (by decide : (8 : Fin 12) ≠ 11),
    before_in W c t _ (by decide : (9 : Fin 12) ≠ 11), before_in W c t _ (by decide : (10 : Fin 12) ≠ 11)]
  iintro ⟨HΦ, HO, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩⟩
  iapply (body_run (F := F) c (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6)) (win1_7.stage (cfg1.slots t 7)) (hstage1_7 ((cfg1.slots t 7).cast nbuf1_7))
    (win1_8.stage (cfg1.slots t 8)) (hstage1_8 ((cfg1.slots t 8).cast nbuf1_8)) (win1_9.stage (cfg1.slots t 9)) (hstage1_9 ((cfg1.slots t 9).cast nbuf1_9))
    (win1_10.stage (cfg1.slots t 10)) (hstage1_10 ((cfg1.slots t 10).cast nbuf1_10)) (win1_11.stage (cfg1.slots t 11)) (hstage1_11 ((cfg1.slots t 11).cast nbuf1_11))
    (inBlk W c 0 t) (inBlk W c 1 t) (inBlk W c 2 t) (inBlk W c 3 t) (inBlk W c 4 t) (inBlk W c 5 t) (inBlk W c 6 t) (inBlk W c 7 t)
    (inBlk W c 8 t) (inBlk W c 9 t) (inBlk W c 10 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iempintro
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The region -/

/-- Every staging wait sits at level 0, below whatever a core could owe: it owes nothing. -/
theorem levelCut : Pipeline.LevelCut (pcfgs (F := F)) adm (none : HIx 1) (K (F := F)).L (K (F := F)).lev 0 (fun _ : Dev nD => 0) fun _ => 0 where
  hι _ _ _ := Finset.mem_univ _
  hιb _ _ _ := le_of_eq ((K (F := F)).lev_none _)
  hD _ _ _ h := absurd h (Nat.lt_irrefl 0)

/-- The pipeline stages every scoped buffer: its invariant is empty at the end and so is the rest of them. -/
theorem hout (c : Dev nD) : (pdats W 0 c).Φ (Fin.last (Pipeline.pin (pcfgs (F := F)) adm 0).N)
    ⊢ iprop(Pipeline.scopedRest (Pipeline.pin (pcfgs (F := F)) adm 0).spec c ∗ emp) := by
  rw [show (Pipeline.scopedRest (Pipeline.pin (pcfgs (F := F)) adm 0).spec c : sProp 𝕄) = iprop(emp) from scopedRest1_eq c]
  exact Laws.sep_emp.2

/-- The second call over every unscoped buffer at `W c`: left with its result's array written and nothing else changed. -/
def reg [∀ e, Nonempty (Elt F e)] : Pipeline.RegionSeg (pcfgs (F := F)) adm (pdats W) (none : HIx 1) (defs₀ (F := F)) 𝒱₀ (K (F := F)).L (K (F := F)).lev 0 :=
  Pipeline.RegionSeg.ofHeldIn (pcfgs (F := F)) adm (pdats W) none defs₀ 𝒱₀ (K (F := F)).L (K (F := F)).lev 0 (fun _ => 0) (Pipeline.ucRefs τ sig)
    (fun _ => iprop(emp)) (fun _ => iprop(emp)) launch1.toP rfl (fun c => (body_obligation W c).loose) (fun _ _ => rfl) (fun _ => rfl)
    (fun c => (pdats W 0 c).share_full fun _ => rfl) (fun c => sep_elim_right) (hout W)
    (fun _ => 0) levelCut (fun _ => iprop(emp)) W (fun _ _ => rfl)

/-- The second call's arrays are unscoped buffers. -/
theorem regRefs_sub : Pipeline.arrRefs (τ := τ) (pcfgs (F := F) 0).spec ⊆ Pipeline.ucRefs τ sig :=
  Pipeline.arrRefs_sub_ucRefs _ launch1.win.arr_unscoped

theorem reg_pre [∀ e, Nonempty (Elt F e)] (c : Dev nD) :
    iprop(StableHlo.held c.tc (Pipeline.ucRefs τ sig) (W c) ∗ ((∃ Wd, owes c.tc (0 : CellTallies nD τ sig (HIx 1)) Wd) ∗ emp ∗ emp)) ⊢ (reg W).pre c := by
  exact Pipeline.RegionSeg.ofHeldIn_pre (pcs := pcfgs (F := F)) (a := adm) (pdats := pdats W) (ι := none) (defs₀ := defs₀ (F := F)) (𝒱₀ := 𝒱₀) (L := (K (F := F)).L)
    (lv := (K (F := F)).lev) (D := fun _ => 0) (p := 0) (S := Pipeline.ucRefs τ sig) regRefs_sub (X := fun _ => iprop(emp)) (Y := fun _ => iprop(emp)) (kit := launch1.toP)
    (hK := rfl) (hbody := fun c => (body_obligation W c).loose) (howed := fun _ _ => rfl) (hrec := fun _ => rfl) (hshare := fun c => (pdats W 0 c).share_full fun _ => rfl)
    (hin := fun c => sep_elim_right) (hout := hout W) (b := fun _ => 0) (hcut := levelCut) (R := fun _ => iprop(emp)) (W := W) (hW := fun _ _ => rfl) c

theorem reg_post [∀ e, Nonempty (Elt F e)] (c : Dev nD) :
    (reg W).post c ⊢ iprop(StableHlo.held c.tc (Pipeline.ucRefs τ sig) (Pipeline.afterRegion (pdats W 0 c) (W c))
      ∗ ((∃ Wd, owes c.tc (0 : CellTallies nD τ sig (HIx 1)) Wd) ∗ emp ∗ emp)) := by
  exact Pipeline.RegionSeg.ofHeldIn_post (pcs := pcfgs (F := F)) (a := adm) (pdats := pdats W) (ι := none) (defs₀ := defs₀ (F := F)) (𝒱₀ := 𝒱₀) (L := (K (F := F)).L)
    (lv := (K (F := F)).lev) (D := fun _ => 0) (p := 0) (S := Pipeline.ucRefs τ sig) regRefs_sub (X := fun _ => iprop(emp)) (Y := fun _ => iprop(emp)) (kit := launch1.toP)
    (hK := rfl) (hbody := fun c => (body_obligation W c).loose) (howed := fun _ _ => rfl) (hrec := fun _ => rfl) (hshare := fun c => (pdats W 0 c).share_full fun _ => rfl)
    (hin := fun c => sep_elim_right) (hout := hout W) (b := fun _ => 0) (hcut := levelCut) (R := fun _ => iprop(emp)) (W := W) (hW := fun _ _ => rfl) c

end Cert.Proof.Rec

end
-- ==== Proof.Main.lean ====
/-
  The program's run: @main on the TensorCore around its two calls, and what every run of the program ends in.

  Everything unscoped is held at one valuation, which each step of @main moves on: two operations of the host prepare two
  weights, the first call writes the gathered rows, the second its result, a last operation reshapes that.
-/
module

public import proofs.«01_k».proof.Proof.Mlp

@[expose] public section

noncomputable section

namespace Cert.Proof.Rec

open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents of the buffers, step by step -/

/-- @main's host operations: two before the calls, one after. -/
abbrev op₁ : HloOp τ sig (Elt F) :=
  StableHlo.unary main_arg8 main_v0 ((transpose S64x128 [1, 0] · transposes_S128x64_S64x128_1_0) : (⟨S128x64, .f32⟩ : BufTy).Contents (Elt F) → (⟨S64x128, .f32⟩ : BufTy).Contents (Elt F))
abbrev op₂ : HloOp τ sig (Elt F) := StableHlo.reshape main_arg10 main_v1 (rfl : (.f32 : EltTy) = .f32) shapeCasts_S64x1_S1x64
abbrev op₃ : HloOp τ sig (Elt F) := StableHlo.reshape main_v3 main_v4 (rfl : (.f32 : EltTy) = .f32) shapeCasts_S128x128_S16384x1

/-- At the launch; at the first call; after it; after the second call; at the end. -/
def W₀ (d : Dev nD) : Valuation τ sig (Elt F) := fun b => m (d, b)
def W₁ (d : Dev nD) : Valuation τ sig (Elt F) := op₂.result (op₁.result (W₀ m d))
def W₂ (d : Dev nD) : Valuation τ sig (Elt F) := Function.update (W₁ m d) (Proc.devRef .tc main_v2) (gathAt m d)
def W₃ (d : Dev nD) : Valuation τ sig (Elt F) := Pipeline.afterRegion (pdats (W₂ m) 0 d) (W₂ m d)
def W₄ (d : Dev nD) : Valuation τ sig (Elt F) := op₃.result (W₃ m d)

/-- The first call's buffers: the indices, the table and the gathered rows. -/
def gRefs : Finset (DevRef τ sig) := {Proc.devRef .tc main_arg0, Proc.devRef .tc main_arg3, Proc.devRef .tc main_v2}

theorem gRefs_sub : gRefs ⊆ Pipeline.ucRefs τ sig := by decide

theorem held_gRefs (d : Dev nD) (W : Valuation τ sig (Elt F)) :
    (StableHlo.held (d.tc : Thread nD τ) gRefs W : sProp 𝕄)
      = iprop((iLoc d ↦{fullShare} W (Proc.devRef .tc main_arg0)) ∗ (tLoc d ↦{fullShare} W (Proc.devRef .tc main_arg3))
          ∗ oLoc d ↦{fullShare} W (Proc.devRef .tc main_v2)) := by
  unfold StableHlo.held gRefs
  rw [SparseCore.bigSep_insert' (by decide), SparseCore.bigSep_insert' (by decide), bigSep_singleton]

theorem W₁_keeps (d : Dev nD) (b : DevRef τ sig) (h₁ : b ≠ Proc.devRef .tc main_v0) (h₂ : b ≠ Proc.devRef .tc main_v1) : W₁ m d b = m (d, b) :=
  ((op₂ (F := F)).result_of_not_mem _ fun h => h₂ (Finset.mem_singleton.mp h)).trans
    ((op₁ (F := F)).result_of_not_mem _ fun h => h₁ (Finset.mem_singleton.mp h))

/-- Before the first call its buffers hold what they were launched with. -/
theorem held_before (d : Dev nD) :
    (StableHlo.held (d.tc : Thread nD τ) (Pipeline.ucRefs τ sig) (W₁ m d) : sProp 𝕄)
      = iprop(((iLoc d ↦{fullShare} m (iLoc d)) ∗ (tLoc d ↦{fullShare} m (tLoc d)) ∗ oLoc d ↦{fullShare} m (oLoc d))
          ∗ StableHlo.held (d.tc : Thread nD τ) (Pipeline.ucRefs τ sig \ gRefs) (W₁ m d)) := by
  rw [StableHlo.held_sub_split _ gRefs_sub, held_gRefs]
  rw [W₁_keeps m d (Proc.devRef .tc main_arg0) (by decide) (by decide), W₁_keeps m d (Proc.devRef .tc main_arg3) (by decide) (by decide),
    W₁_keeps m d (Proc.devRef .tc main_v2) (by decide) (by decide)]

theorem W₂_keeps (d : Dev nD) (b : DevRef τ sig) (h : b ≠ Proc.devRef .tc main_v2) : W₂ m d b = W₁ m d b := Function.update_of_ne h _ _

/-- After it the rows are gathered and all else is as it was. -/
theorem held_after (d : Dev nD) :
    (StableHlo.held (d.tc : Thread nD τ) (Pipeline.ucRefs τ sig) (W₂ m d) : sProp 𝕄)
      = iprop(((iLoc d ↦{fullShare} m (iLoc d)) ∗ (tLoc d ↦{fullShare} m (tLoc d)) ∗ oLoc d ↦{fullShare} gathAt m d)
          ∗ StableHlo.held (d.tc : Thread nD τ) (Pipeline.ucRefs τ sig \ gRefs) (W₁ m d)) := by
  rw [StableHlo.held_sub_split _ gRefs_sub, held_gRefs]
  rw [W₂_keeps m d (Proc.devRef .tc main_arg0) (by decide), W₂_keeps m d (Proc.devRef .tc main_arg3) (by decide),
    W₁_keeps m d (Proc.devRef .tc main_arg0) (by decide) (by decide), W₁_keeps m d (Proc.devRef .tc main_arg3) (by decide) (by decide),
    show W₂ m d (Proc.devRef .tc main_v2) = gathAt m d from Function.update_self _ _ _,
    StableHlo.held_congr (d.tc : Thread nD τ) (S := Pipeline.ucRefs τ sig \ gRefs) (V := W₂ m d) (V' := W₁ m d) fun b hb => W₂_keeps m d b fun e =>
      (Finset.mem_sdiff.mp hb).2 (e ▸ (by decide : (Proc.devRef .tc main_v2 : DevRef τ sig) ∈ gRefs))]

/-! ## @main on the TensorCore -/

/-- Device `d` ends with every unscoped buffer at the last valuation. -/
abbrev FIN (d : Dev nD) : sProp 𝕄 := StableHlo.held (d.tc : Thread nD τ) (Pipeline.ucRefs τ sig) (W₄ m d)

/-- Every level is at most 7, so any record of waits is below 8. -/
theorem below_eight (thr : Thread nD τ) (W : Waits sig (HIx 1)) : (K (F := F)).WBelow thr W 8 := fun p _ => by
  obtain ⟨s, i⟩ := p
  match i with
  | none => exact Nat.zero_le _
  | some q => exact ((K (F := F)).lev_some_le _ q).trans (by omega)

/-- The second call in @main, as the pipeline's own program. -/
theorem call_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (Pipeline.ucRefs τ sig) (W₀ m d)
    from Pipeline.unscopedBufs_held d (W₀ m d)]
  simp only [main, wp_bind, wp_pure]
  iintro ⟨#Hctx, Hst, ⟨Hb, Hh, Hts, -⟩, HG⟩
  iapply (StableHlo.wp_hlo_within 𝒱 (SparseCore.T d) none Set.univ (op := op₁ (F := F)) (S := Pipeline.ucRefs τ sig)
    (Pipeline.sub_ucRefs _ (StableHlo.unary_bufs_sub ..)) (V := W₀ m d)) $$ [Hb Hh]
  · isplitl [Hb] <;> iassumption
  iintro ⟨Hb, Hh⟩
  rw [wp_ret]; imodintro
  iapply (StableHlo.wp_hlo_within 𝒱 (SparseCore.T d) none Set.univ (op := op₂ (F := F)) (S := Pipeline.ucRefs τ sig)
    (Pipeline.sub_ucRefs _ (StableHlo.reshape_bufs_sub ..)) (V := op₁.result (W₀ m d))) $$ [Hb Hh]
  · isplitl [Hb] <;> iassumption
  iintro ⟨Hb, Hh⟩
  rw [wp_ret]; imodintro
  ihave Hh := (show StableHlo.held (SparseCore.T d) (Pipeline.ucRefs τ sig) (op₂.result (op₁.result (W₀ m d))) ⊢ _ from Entails.of_eq (held_before m d)) $$ Hh
  icases Hh with ⟨Hg, Hr⟩
  iapply ((K (F := F)).wp_run (D (F := F)) 𝒱 (EH := EH) (P := P m) κ d 0)
  isplitr; · iexact Hctx
  isplitl [Hst]; · iexact Hst
  isplitl [Hg]; · rw [st_eq]; iexact Hg
  iintro ⟨Hst, Hdn⟩
  ihave Hdn := (Entails.of_eq (dn_eq m d)) $$ Hdn
  ihave Hh := (Entails.of_eq (held_after m d).symm) $$ [Hdn Hr]
  · isplitl [Hdn] <;> iassumption
  rw [call_eq]
  iapply ((K (F := F)).wp_liftProg (D (F := F)) 𝒱 (SparseCore.T d) Set.univ none _ _)
  unfold SparseCore.Cfg.tcSt
  icases Hst with ⟨⟨%Wt, -, HO⟩, Hst⟩
  icases HG with ⟨Hg, Ht⟩
  rw [(K (F := F)).Otc_end d (by decide : 1 ≤ (0 : Fin 1).val + 1)]
  iapply (Pipeline.RegionSeg.wp (pcfgs (F := F)) adm (pdats (W₂ m)) none cellOf_inj EP (defs₀ (F := F)) 𝒱₀ (K (F := F)).L (K (F := F)).lev (reg (W₂ m)) d none (fun u hu => absurd hu (by simp)) _ _)
  isplitr [Hb Hh HO Hg Ht]
  · iintro ⟨Hb, Hpost⟩
    ihave Hpost := (reg_post (W₂ m) d) $$ Hpost
    icases Hpost with ⟨Hh, ⟨%We, HO⟩, -⟩
    rw [wp_ret]; imodintro
    iapply (StableHlo.wp_hlo_within 𝒱 (SparseCore.T d) none Set.univ (op := op₃ (F := F)) (S := Pipeline.ucRefs τ sig)
      (Pipeline.sub_ucRefs _ (StableHlo.reshape_bufs_sub ..)) (V := W₃ m d)) $$ [Hb Hh]
    · isplitl [Hb]; · iexact Hb
      iexact Hh
    iintro ⟨Hb, Hh⟩
    rw [wp_ret]; imodintro; imodintro
    isplitl [HO Hst]
    · isplitl [HO]
      · iexists We
        isplitr; · ipureintro; exact below_eight _ _
        rw [(K (F := F)).Otc_end d (Nat.le_refl 1)]
        iexact HO
      iexact Hst
    isplitl [Hh]; · iexact Hh
    isplitl [Hb]; · iexact Hb
    iexact Hts
  isplitl [Hb]; · iexact Hb
  isplitl [Hh HO]
  · iapply (reg_pre (W₂ m) d)
    isplitl [Hh]; · iexact Hh
    isplitl [HO]; · iexists Wt; iexact HO
    isplitr; · iempintro
    iempintro
  isplitr; · iapply (SparseCore.Cfg.ctx_levAts κ) $$ Hctx
  isplitl [Hg]; · iexact Hg
  iexact Ht

/-! ## The run -/

/-- What a run ends in on device `d`: every unscoped buffer of the TensorCore at the last valuation. -/
def fq (d : Dev nD) (s' : Phys nD τ sig (Elt F)) : Prop := ∀ b ∈ Pipeline.ucRefs τ sig, s'.mem.mem (d, b) = W₄ m d b

theorem hfin (d : Dev nD) (s' : Phys nD τ sig (Elt F)) : iprop(FIN m d ∗ SI s') ⊢ (⌜fq m d s'⌝ : sProp 𝕄) := by
  have one (b : {b // b ∈ Pipeline.ucRefs τ sig}) : iprop(FIN m d ∗ SI s') ⊢ (⌜s'.mem.mem (d, b.1) = W₄ m d b.1⌝ : sProp 𝕄) := by
    refine (sep_mono (bigSep_elim (Φ := fun b => ((d, b) ↦{fullShare} W₄ m d b : sProp 𝕄)) b.2) .rfl).trans ?_
    iintro ⟨Hx, HSI⟩
    ihave H := (SI_pointsTo_agree (st := s') (ℓ := (d, b.1)) (I := Finset.univ) (q := fullShare) (f := W₄ m d b.1)) $$ [HSI Hx]
    · isplitl [HSI] <;> iassumption
    icases H with %h
    ipureintro; exact funext fun i => h i (Finset.mem_univ i)
  exact ((Laws.forall_intro one).trans Laws.pure_forall.2).trans (Laws.pure_mono fun h b hb => h ⟨b, hb⟩)

def QC : PUnit × MemSt nD τ sig (Elt F) → Prop := fun r =>
  (∀ d : Dev nD, ∀ b ∈ Pipeline.ucRefs τ sig, r.2.mem (d, b) = W₄ m d b) ∧ r.2.sem = fun _ => 0

/-- The program runs to its end from any memory whose indices are rows of the table, for any float values. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

/-! ## What the last valuation says of the arguments and the result -/

theorem mem_ucRefs {r : Ref sig .tc} (h : r.isScoped = false) : (Proc.devRef .tc r : DevRef τ sig) ∈ Pipeline.ucRefs τ sig := Pipeline.devRef_mem_ucRefs h

/-- A buffer that no operation and neither call writes ends as it was launched. -/
theorem W₄_keeps (d : Dev nD) (r : Ref sig .tc) (h : r ≠ main_v0 ∧ r ≠ main_v1 ∧ r ≠ main_v2 ∧ r ≠ main_v3 ∧ r ≠ main_v4)
    (hout : ∀ w, Pipeline.arrRef spec1 w = r → (cfg1.win w).isOut = false) : W₄ m d (Proc.devRef .tc r) = m (d, Proc.devRef .tc r) := by
  have hne {r' : Ref sig .tc} (e : r ≠ r') : (Proc.devRef .tc r : DevRef τ sig) ≠ Proc.devRef .tc r' := fun h => e (Proc.devRef_injective _ h)
  refine ((op₃ (F := F)).result_of_not_mem _ fun h' => hne h.2.2.2.2 (Finset.mem_singleton.mp h')).trans ?_
  refine (Pipeline.afterRegion_keeps (pdats (W₂ m) 0 d) (W₂ m d) launch1.win.arr_inj (fun _ => rfl) r hout).trans ?_
  exact (W₂_keeps m d _ (hne h.2.2.1)).trans (W₁_keeps m d _ (hne h.1) (hne h.2.1))

/-- The result is the second call's array in another shape. -/
theorem W₄_out (d : Dev nD) : W₄ m d (Proc.devRef .tc main_v4)
    = (shapeCast S16384x1 ((pdats (W₂ m) 0 d).arrAt 11 cfg1.N) shapeCasts_S128x128_S16384x1 : Vec F S16384x1 .f32) := by
  refine (StableHlo.reshape_result main_v3 main_v4 rfl shapeCasts_S128x128_S16384x1 _ _ (W₃ m d)).trans ?_
  refine congrArg (fun x : Vec F S128x128 .f32 => (shapeCast S16384x1 x shapeCasts_S128x128_S16384x1 : Vec F S16384x1 .f32)) ?_
  exact Pipeline.afterRegion_arr (pdats (W₂ m) 0 d) (W₂ m d) launch1.win.arr_inj 11

end Cert.Proof.Rec

end
-- ==== Proof.Frames.lean ====
/-
  The frames: the precondition makes every index a row of the table, and each program then runs to its end with its
  arguments unchanged and every counter at zero. The kernel and its idealization are one program, read at two kinds of
  float values; one run serves both.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.WordCmp

@[expose] public section

noncomputable section

namespace Cert.Proof.Rec

open Cert.KernelIdeal Cert.KernelIdeal.Gen
open Idealize.ShloMosaic Idealize.SL.Sem

attribute [local instance] Cert.Kernel.Gen.facts Cert.ReferenceIdeal.Gen.facts Cert.Pre_in_range.Gen.facts

variable {F : FTy → Type} [FloatOps F]

/-- The precondition, opened: every index is a row of the table. -/
theorem lt_of_in_range (i : IVec S16384 32) {a₁ a₂ a₃ a₄ a₅ a₆ a₇ a₈ a₉ a₁₀ a₁₁}
    (h : Cert.Pre_in_range.fn (F := F) i a₁ a₂ a₃ a₄ a₅ a₆ a₇ a₈ a₉ a₁₀ a₁₁ = fun _ => 1#1) (j : S16384.Idx) : (i j).toNat < 100000 := by
  have e := Host.reduce_andi_all (t := Cert.Pre_in_range.S_) _ _ _ _ _ (congrFun h (fun a => a.elim0)) j
  exact of_decide_eq_true ((WordCmp.ofBool_eq_one_iff _).mp ((WordCmp.andi_sge_zero_slt_ofNat (w := 32) (by decide) (i j)).symm.trans e))

/-- The arguments end as they were launched. -/
theorem args_kept (m : (ℓ : Loc nD τ sig) → Buf (Elt F) ℓ) (r : PUnit × MemSt nD τ sig (Elt F)) (h : QC m r) (b : Ref sig .tc)
    (hs : b.isScoped = false) (h' : b ≠ main_v0 ∧ b ≠ main_v1 ∧ b ≠ main_v2 ∧ b ≠ main_v3 ∧ b ≠ main_v4)
    (hout : ∀ w, Pipeline.arrRef spec1 w = b → (cfg1.win w).isOut = false) (c : Dev nD) :
    r.2.mem ((c.tc : Thread nD τ).loc b) = m ((c.tc : Thread nD τ).loc b) :=
  (h.1 c _ (mem_ucRefs hs)).trans (W₄_keeps m c b h' hout)

/-- All twelve of them. -/
theorem all_kept (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11) := by
  refine ⟨?_, ?_, ?_, ?_, ?_, ?_, ?_, ?_, ?_, ?_, ?_, ?_⟩ <;>
    exact args_kept m r h _ (by decide) (by decide) (by decide +kernel) c

/-- The kernel and its idealization have one table of bodies … -/
theorem defs₀_eq : (Cert.Kernel.defs₀ (F := F)) = Cert.KernelIdeal.defs₀ := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

/-- … and so one table in all. -/
theorem defs_eq : (Cert.Kernel.defs (F := F)) = Cert.KernelIdeal.defs :=
  congrArg (fun D => Cert.KernelIdeal.sc.defs (Pipeline.defs Cert.KernelIdeal.pcfgs D)) defs₀_eq

/-- The kernel's run, at its own float values. -/
theorem run_kernel (m : (ℓ : Loc nD τ sig) → Buf (Elt Bits) ℓ) (ρ : Dev nD → PrngReg) (hpre : PreOK m) :
    θ_run (Cert.Kernel.defs (F := Bits)) (Cert.Kernel.threads (F := Bits)) ⟨m, fun _ => 0, ρ⟩ (QC m) :=
  (congrArg (fun D => θ_run D (Cert.KernelIdeal.threads (F := Bits)) ⟨m, fun _ => 0, ρ⟩ (QC m)) defs_eq).mpr (run_main (F := Bits) m ρ hpre)

theorem frame_kernel : Cert.quiescent_Kernel := fun m ρ hpre =>
  (θ_run (Cert.Kernel.defs (F := Bits)) _ _).mono (fun r h => ⟨all_kept (F := Bits) m r h, h.2⟩)
    (run_kernel m ρ fun d => lt_of_in_range (F := Bits) _ (hpre d))

theorem frame_kernelIdeal : Cert.quiescent_KernelIdeal := fun m ρ hpre =>
  (θ_run (Cert.KernelIdeal.defs (F := Ideal)) _ _).mono (fun r h => ⟨all_kept m r h, h.2⟩)
    (run_main m ρ fun d => lt_of_in_range (F := Ideal) _ (hpre d))

theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof.Rec

end
-- ==== Proof.Net.lean ====
/-
  The network, one row at a time over the extended reals, and the kernel's body as that network of each of its rows.
-/
module

public import proofs.«01_k».proof.Proof.Mlp
public import Idealize.ShloMosaic.Lib.Pointwise

@[expose] public section

noncomputable section

namespace Cert.Proof.Rec

open Cert.KernelIdeal Cert.KernelIdeal.Gen
open Idealize.ShloMosaic

/-- The first layer of a user's vector `u` and an item's vector `x`, which the first and the last 128 rows of `w` multiply. -/
def layer₁ (u x : Fin 128 → EReal) (w : S256x256.Idx → EReal) (b : S256.Idx → EReal) (j : Fin 256) : EReal :=
  max ((∑ k : Fin 128, u k * w (ix2 ⟨k.1, by omega⟩ j)) + (∑ k : Fin 128, x k * w (ix2 ⟨128 + k.1, by omega⟩ j)) + b (ix1 j)) 0

def layer₂ (h : Fin 256 → EReal) (w : S256x128.Idx → EReal) (b : S128.Idx → EReal) (j : Fin 128) : EReal :=
  max ((∑ k : Fin 256, h k * w (ix2 k j)) + b (ix1 j)) 0

def layer₃ (h : Fin 128 → EReal) (w : S128x64.Idx → EReal) (b : S64.Idx → EReal) (j : Fin 64) : EReal :=
  max ((∑ k : Fin 128, h k * w (ix2 k j)) + b (ix1 j)) 0

/-- The network's output for one pair of a user and an item. -/
def net (u x : Fin 128 → EReal) (w₁ : S256x256.Idx → EReal) (b₁ : S256.Idx → EReal) (w₂ : S256x128.Idx → EReal) (b₂ : S128.Idx → EReal)
    (w₃ : S128x64.Idx → EReal) (b₃ : S64.Idx → EReal) (w₄ : S64x1.Idx → EReal) (b₄ : S1.Idx → EReal) : EReal :=
  Ideal.logistic ((∑ k : Fin 64, layer₃ (layer₂ (layer₁ u x w₁ b₁) w₂ b₂) w₃ b₃ k * w₄ (ix2 k 0)) + b₄ (ix1 0))

/-- The body's result at row `r` and lane `l` is the network's output for row `128 r + l` of its block, the third weight
    being given transposed and the last as a row. -/
theorem mlp_apply (x : Vec Ideal S8192x128 .f32) (g t : Vec Ideal S1x128 .f32) (w₁ : Vec Ideal S256x256 .f32) (b₁ : Vec Ideal S256 .f32)
    (w₂ : Vec Ideal S256x128 .f32) (b₂ : Vec Ideal S128 .f32) (w₃ : Vec Ideal S128x64 .f32) (b₃ : Vec Ideal S64 .f32) (w₄ : Vec Ideal S64x1 .f32)
    (b₄ : Vec Ideal S1 .f32) (r : Fin 64) (l : Fin 128) :
    mlp x g t w₁ b₁ w₂ b₂ (transpose S64x128 [1, 0] w₃ transposes_S128x64_S64x128_1_0) b₃ (shapeCast S1x64 w₄ shapeCasts_S64x1_S1x64) b₄ (ix2 r l)
      = net (fun k => t (ix2 0 k) + g (ix2 0 k)) (fun k => x (ix2 ⟨r.1 * 128 + l.1, by omega⟩ k)) w₁ b₁ w₂ b₂ w₃ b₃ w₄ b₄ := by
  pointwise [mlp, k1_pay1, k1_pay2]
  refine congrArg Ideal.logistic (congrArg (· + b₄ (ix1 0)) (Finset.sum_congr rfl fun a _ => (mul_comm _ _).trans ?_))
  refine congrArg (fun h => h * w₄ (ix2 a 0)) (congrArg (fun s => max (s + b₃ (ix1 a)) 0) (Finset.sum_congr rfl fun j _ => ?_))
  refine congrArg (fun h => h * w₃ (ix2 j a)) (congrArg (fun s => max (s + b₂ (ix1 j)) 0) (Finset.sum_congr rfl fun i _ => ?_))
  refine congrArg (fun h => h * w₂ (ix2 i j)) (congrArg (fun s => max s 0) ((add_left_comm _ _ _).trans ((add_assoc _ _ _).symm.trans ?_)))
  refine congrArg (fun s => s + _ + b₁ (ix1 i)) (Finset.sum_congr rfl fun k _ => ?_)
  exact congrArg (fun s => s * w₁ (ix2 ⟨k.1, by omega⟩ i)) (add_comm _ _)

end Cert.Proof.Rec

end
-- ==== Proof.KernelValue.lean ====
/-
  The kernel's result over the extended reals: entry `n` is the network's output for the row of the table at index `n`.
-/
module

public import proofs.«01_k».proof.Proof.Main
public import proofs.«01_k».proof.Proof.Net
public import Idealize.ShloMosaic.Lib.Pipeline.ValueKit

@[expose] public section

noncomputable section

namespace Cert.Proof.Rec

open Cert.KernelIdeal Cert.KernelIdeal.Gen
open Idealize.ShloMosaic Idealize.ShloMosaic.Pipeline

variable {F : FTy → Type} [FloatOps F] (W : Dev nD → Valuation τ sig (Elt F)) (c : Dev nD)

/-! ## The blocks the call fetches and writes back -/

theorem index_0 : ∀ t : Fin cfg1.N, win1_0.index t = ![t.1, 0] := by decide +kernel
theorem index_11 : ∀ t : Fin cfg1.N, win1_11.index t = ![t.1, 0] := by decide +kernel

/-- The gathered rows come in blocks of 8192. -/
theorem in_0 (t : Fin cfg1.N) (r : Fin 8192) (k : Fin 128) (n : Fin 16384) (hn : n.1 = t.1 * 8192 + r.1) :
    inBlk W c 0 t (ix2 r k) = W c (Proc.devRef .tc main_v2) (ix2 n k) := by
  blk_ext [inBlk, index_0 t]

/-! Every other input comes whole, at each point. -/

theorem index_1 : ∀ t : Fin cfg1.N, win1_1.index t = ![0, 0] := by decide +kernel
theorem index_2 : ∀ t : Fin cfg1.N, win1_2.index t = ![0, 0] := by decide +kernel
theorem index_3 : ∀ t : Fin cfg1.N, win1_3.index t = ![0, 0] := by decide +kernel
theorem index_4 : ∀ t : Fin cfg1.N, win1_4.index t = ![0] := by decide +kernel
theorem index_5 : ∀ t : Fin cfg1.N, win1_5.index t = ![0, 0] := by decide +kernel
theorem index_6 : ∀ t : Fin cfg1.N, win1_6.index t = ![0] := by decide +kernel
theorem index_7 : ∀ t : Fin cfg1.N, win1_7.index t = ![0, 0] := by decide +kernel
theorem index_8 : ∀ t : Fin cfg1.N, win1_8.index t = ![0] := by decide +kernel
theorem index_9 : ∀ t : Fin cfg1.N, win1_9.index t = ![0, 0] := by decide +kernel
theorem index_10 : ∀ t : Fin cfg1.N, win1_10.index t = ![0] := by decide +kernel
theorem in_1 (t : Fin cfg1.N) : inBlk W c 1 t = W c (Proc.devRef .tc main_arg1) := by funext y; blk_ext [inBlk, index_1 t]
theorem in_2 (t : Fin cfg1.N) : inBlk W c 2 t = W c (Proc.devRef .tc main_arg2) := by funext y; blk_ext [inBlk, index_2 t]
theorem in_3 (t : Fin cfg1.N) : inBlk W c 3 t = W c (Proc.devRef .tc main_arg4) := by funext y; blk_ext [inBlk, index_3 t]
theorem in_4 (t : Fin cfg1.N) : inBlk W c 4 t = W c (Proc.devRef .tc main_arg5) := by funext y; blk_ext [inBlk, index_4 t]
theorem in_5 (t : Fin cfg1.N) : inBlk W c 5 t = W c (Proc.devRef .tc main_arg6) := by funext y; blk_ext [inBlk, index_5 t]
theorem in_6 (t : Fin cfg1.N) : inBlk W c 6 t = W c (Proc.devRef .tc main_arg7) := by funext y; blk_ext [inBlk, index_6 t]
theorem in_7 (t : Fin cfg1.N) : inBlk W c 7 t = W c (Proc.devRef .tc main_v0) := by funext y; blk_ext [inBlk, index_7 t]
theorem in_8 (t : Fin cfg1.N) : inBlk W c 8 t = W c (Proc.devRef .tc main_arg9) := by funext y; blk_ext [inBlk, index_8 t]
theorem in_9 (t : Fin cfg1.N) : inBlk W c 9 t = W c (Proc.devRef .tc main_v1) := by funext y; blk_ext [inBlk, index_9 t]
theorem in_10 (t : Fin cfg1.N) : inBlk W c 10 t = W c (Proc.devRef .tc main_arg11) := by funext y; blk_ext [inBlk, index_10 t]

/-- The call's result, from its two blocks. -/
def outArr : Vec F S128x128 .f32 := fun p =>
  outBlk W c ⟨(p 0).1 / 64, Nat.div_lt_of_lt_mul (p 0).2⟩ (ix2 ⟨(p 0).1 % 64, Nat.mod_lt _ (by decide)⟩ (p 1))

theorem arr_out : (pdats W 0 c).arrAt 11 cfg1.N = outArr W c := by
  refine (pdats W 0 c).arrAt_eq_of_covers 11 _ (by decide +kernel) fun t hf y => ?_
  blk_simp
  dsimp only [pdats]
  have e (p : S128x128.Idx) (y : S64x128.Idx) (h0 : (p 0).1 = t.1 * 64 + (y 0).1) (h1 : (p 1).1 = (y 1).1) :
      outBlk W c t y = outArr W c p := by
    have hy : (y 0).1 < 64 := (y 0).2
    unfold outArr
    rw [show (⟨(p 0).1 / 64, Nat.div_lt_of_lt_mul (p 0).2⟩ : Fin cfg1.N) = t from Fin.ext (by simp only; omega)]
    refine congrArg (outBlk W c t) ((eq_ix2 y).trans ?_)
    refine congr (congrArg ix2 (Fin.ext ?_)) (Fin.ext h1.symm)
    simp only; omega
  exact e _ y (by blk_simp [index_11 t]) (by blk_simp [index_11 t])

/-! ## The result -/

variable (m : (ℓ : Loc nD τ sig) → Buf (Elt F) ℓ) (d : Dev nD)

/-- An array that neither the host's first operations nor the first call writes. -/
theorem W₂_launch (b : Ref sig .tc) (h : b ≠ main_v0 ∧ b ≠ main_v1 ∧ b ≠ main_v2) :
    W₂ m d (Proc.devRef .tc b) = m (d, Proc.devRef .tc b) :=
  have hne {b' : Ref sig .tc} (e : b ≠ b') : (Proc.devRef .tc b : DevRef τ sig) ≠ Proc.devRef .tc b' := fun h => e (Proc.devRef_injective _ h)
  (W₂_keeps m d _ (hne h.2.2)).trans (W₁_keeps m d _ (hne h.1) (hne h.2.1))

theorem W₂_v0 : W₂ m d (Proc.devRef .tc main_v0)
    = (transpose S64x128 [1, 0] (m (d, Proc.devRef .tc main_arg8) : Vec F S128x64 .f32) transposes_S128x64_S64x128_1_0 : Vec F S64x128 .f32) := by
  refine (W₂_keeps m d _ (by decide)).trans ?_
  refine ((op₂ (F := F)).result_of_not_mem _ fun h => absurd (Finset.mem_singleton.mp h) (by decide)).trans ?_
  exact StableHlo.unary_result ..

theorem W₂_v1 : W₂ m d (Proc.devRef .tc main_v1)
    = (shapeCast S1x64 (m (d, Proc.devRef .tc main_arg10) : Vec F S64x1 .f32) shapeCasts_S64x1_S1x64 : Vec F S1x64 .f32) := by
  refine (W₂_keeps m d _ (by decide)).trans ?_
  refine (StableHlo.reshape_result ..).trans ?_
  refine congrArg (fun x : Vec F S64x1 .f32 => (shapeCast S1x64 x shapeCasts_S64x1_S1x64 : Vec F S1x64 .f32)) ?_
  exact (op₁ (F := F)).result_of_not_mem _ fun h => absurd (Finset.mem_singleton.mp h) (by decide)

theorem W₂_v2 : W₂ m d (Proc.devRef .tc main_v2) = gathAt m d := Function.update_self ..

/-- What the kernel computes of its twelve arguments: at each entry the network's output for the sum of the two user
    vectors and the table's row at the entry's index. -/
def rating (i : IVec S16384 32) (g t : Vec Ideal S1x128 .f32) (tab : Vec Ideal S100000x128 .f32) (w₁ : Vec Ideal S256x256 .f32)
    (b₁ : Vec Ideal S256 .f32) (w₂ : Vec Ideal S256x128 .f32) (b₂ : Vec Ideal S128 .f32) (w₃ : Vec Ideal S128x64 .f32)
    (b₃ : Vec Ideal S64 .f32) (w₄ : Vec Ideal S64x1 .f32) (b₄ : Vec Ideal S1 .f32) : Vec Ideal S16384x1 .f32 := fun p =>
  net (fun k => t (ix2 0 k) + g (ix2 0 k)) (fun k => gath i tab (ix2 (p 0) k)) w₁ b₁ w₂ b₂ w₃ b₃ w₄ b₄

/-- The result array is `rating` of the arguments. -/
theorem result_eq (m : (ℓ : Loc nD τ sig) → Buf (Elt Ideal) ℓ) (d : Dev nD) :
    W₄ m d (Proc.devRef .tc main_v4)
      = rating (m (d, Proc.devRef .tc main_arg0)) (m (d, Proc.devRef .tc main_arg1)) (m (d, Proc.devRef .tc main_arg2))
          (m (d, Proc.devRef .tc main_arg3)) (m (d, Proc.devRef .tc main_arg4)) (m (d, Proc.devRef .tc main_arg5))
          (m (d, Proc.devRef .tc main_arg6)) (m (d, Proc.devRef .tc main_arg7)) (m (d, Proc.devRef .tc main_arg8))
          (m (d, Proc.devRef .tc main_arg9)) (m (d, Proc.devRef .tc main_arg10)) (m (d, Proc.devRef .tc main_arg11)) := by
  rw [W₄_out, arr_out]
  funext (p : S16384x1.Idx)
  obtain ⟨n, rfl⟩ : ∃ n : Fin 16384, p = ix2 n 0 := ⟨p 0, (eq_ix2 p).trans (congrArg (ix2 (p 0)) (Subsingleton.elim (α := Fin 1) _ _))⟩
  have hn : n.1 < 16384 := n.2
  have h : (shapeCast S16384x1 (outArr (W₂ m) d) shapeCasts_S128x128_S16384x1 : Vec Ideal S16384x1 .f32) (ix2 n 0)
      = outArr (W₂ m) d (ix2 ⟨n.1 / 128, by omega⟩ ⟨n.1 % 128, by omega⟩) := by
    pointwise
  refine h.trans ?_
  unfold outArr outBlk
  rw [in_1, in_2, in_3, in_4, in_5, in_6, in_7, in_8, in_9, in_10, W₂_v0, W₂_v1]
  rw [W₂_launch m d main_arg1 (by decide), W₂_launch m d main_arg2 (by decide), W₂_launch m d main_arg4 (by decide),
    W₂_launch m d main_arg5 (by decide), W₂_launch m d main_arg6 (by decide), W₂_launch m d main_arg7 (by decide),
    W₂_launch m d main_arg9 (by decide), W₂_launch m d main_arg11 (by decide)]
  refine (mlp_apply ..).trans ?_
  refine congrArg (fun x => net _ x _ _ _ _ _ _ _ _) (funext fun k => ?_)
  refine (in_0 _ _ _ _ _ n ?_).trans (congrFun (W₂_v2 m d) _)
  simp only [ix2]
  omega

end Cert.Proof.Rec

end
-- ==== Proof.RefValue.lean ====
/-
  The reference's result over the extended reals, its indices being rows of the table: the same network of the same rows.

  The reference takes rows by wrapping negative indices and filling what lies outside the table; on indices in range
  neither does anything. It multiplies the concatenation of the two vectors by the first weight: the two sums that the
  network takes over that weight's halves.
-/
module

public import proofs.«01_k».proof.Proof.KernelValue
public import proofs.«01_k».proof.Proof.Gen.ReferenceIdeal
public import proofs.«01_k».proof.Proof.Gen.ReferenceIdeal.Run
public import Idealize.ShloMosaic.Lib.ReduceAll
public import Idealize.ShloMosaic.Lib.WordCmp
public import Idealize.ShloMosaic.Lib.Routing.Ops
public import Idealize.ShloMosaic.Lib.Routing.OpsPair

@[expose] public section

noncomputable section

namespace Cert.Proof.Rec.Ref

open Cert.ReferenceIdeal Cert.ReferenceIdeal.Gen
open Idealize.ShloMosaic

/-! ## Taking rows -/

/-- Indices into a table of `n` rows, the negative ones wrapped, as a column. -/
def wrapped (w : IVec S16384 32) (n : BitVec 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 n))) w)

/-- Which of a column's indices are between 0 and `last`. -/
def inside (e : IVec S16384x1 32) (last : BitVec 32) : IVec S16384 1 :=
  Host.reduce IntOp.andi
    (andi (cmpi .sge e (broadcastInDim S16384x1 ![] bcast_S_S16384x1 (constantI S_ 32 0#32)))
      (cmpi .sle e (broadcastInDim S16384x1 ![0, 1] bcast_S1x1_S16384x1_0_1 (broadcastInDim S1x1 ![1] bcast_S1_S1x1_1 (constantI S1 32 last)))))
    (constantI S_ 1 1#1) reducesTo_S16384x1_S16384_d1 h_S_

/-- A table's rows at indices, as the reference takes them. -/
def take {s : Shape} (D : GatherDims s S16384x1 S16384x128) (n last : BitVec 32) (x : FVec Ideal s .f32) (w : IVec S16384 32) : FVec Ideal S16384x128 .f32 :=
  select (broadcastInDim S16384x128 ![0] bcast_S16384_S16384x128_0 (inside (wrapped w n) last))
    (Host.gather D x (wrapped w n)) (broadcastInDim S16384x128 ![] bcast_S_S16384x128 (constant S_ .f32 0x7FC00000#32))

theorem wrapped_apply (w : IVec S16384 32) (n : BitVec 32) (r : Fin 16384) (z : Fin 1) (h : (w (ix1 r)).toNat < 2 ^ 31) :
    wrapped w n (ix2 r z) = w (ix1 r) := by
  pointwise [wrapped]
  exact Routing.wrap_of_lt _ _ h

theorem inside_apply (w : IVec S16384 32) (n : BitVec 32) {last : ℕ} (hl : last < 2 ^ 31) (hw : ∀ r, (w (ix1 r)).toNat ≤ last) (j : S16384.Idx) :
    inside (wrapped w n) (BitVec.ofNat 32 last) j = 1#1 := by
  refine Host.reduce_andi_one _ _ _ _ _ rfl fun i => ?_
  rw [eq_ix2 i]
  have h := hw (i 0)
  have hb : (BitVec.ofNat 32 last).toNat = last := by rw [BitVec.toNat_ofNat]; omega
  show IntOp.andi (IntOp.cmpi .sge (wrapped w n (ix2 (i 0) (i 1))) 0#32) (IntOp.cmpi .sle (wrapped w n (ix2 (i 0) (i 1))) (BitVec.ofNat 32 last)) = 1#1
  rw [wrapped_apply w n (i 0) (i 1) (by omega), WordCmp.cmpi_sge_zero, WordCmp.cmpi_sle_of_lt (by omega) (by omega), hb,
    decide_eq_true (by omega), decide_eq_true h]
  rfl

/-- On indices in range: the rows. -/
theorem take_apply {nb : ℕ} (D : GatherDims ⟨2, ![nb, 128]⟩ S16384x1 S16384x128) (hoff : D.offsetDims = [1]) (hcoll : D.collapsedSliceDims = [0])
    (hob : D.operandBatchingDims = []) (hsim : D.startIndexMap = [0]) (hivd : D.indexVectorDim = 1) (n : BitVec 32) {last : ℕ} (hnb : nb = last + 1)
    (hl : last < 2 ^ 30) (x : FVec Ideal ⟨2, ![nb, 128]⟩ .f32) (w : IVec S16384 32) (hw : ∀ r, (w (ix1 r)).toNat < nb) (r : Fin 16384) (k : Fin 128) :
    take D n (BitVec.ofNat 32 last) x w (ix2 r k) = x (ix2 ⟨(w (ix1 r)).toNat, hw r⟩ k) := by
  have h : inside (wrapped w n) (BitVec.ofNat 32 last) (ix1 r) = 1#1 := inside_apply w n (by omega) (fun r => by have := hw r; omega) _
  pointwise [take]
  rw [h]
  refine (if_pos rfl).trans ?_
  rw [ix2_eq_valueIdx, ix2_eq_valueIdx]
  refine Routing.gather_row D hoff hcoll hob hsim hivd x _ r k ⟨(w (ix1 r)).toNat, hw r⟩ ?_ (by omega)
  have := hw r
  rw [← ix2_eq_valueIdx, wrapped_apply w n r 0 (by omega)]
  exact (BitVec.ofNat_toNat _ _).trans (by simp) |>.symm

/-! ## The network -/

/-- The reference after its takes. -/
def tail (t g x : FVec Ideal S16384x128 .f32) (w₁ : FVec Ideal S256x256 .f32) (b₁ : FVec Ideal S256 .f32) (w₂ : FVec Ideal S256x128 .f32)
    (b₂ : FVec Ideal S128 .f32) (w₃ : FVec Ideal S128x64 .f32) (b₃ : FVec Ideal S64 .f32) (w₄ : FVec Ideal S64x1 .f32) (b₄ : FVec Ideal S1 .f32) :
    FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x64_S64x1_S16384x1_1_0_0_1_n_n none
        (maximumf (addf (Host.dotGeneral dot_S16384x128_S128x64_S16384x64_1_0_0_1_n_n none
          (maximumf (addf (Host.dotGeneral dot_S16384x256_S256x128_S16384x128_1_0_0_1_n_n none
            (maximumf (addf (Host.dotGeneral dot_S16384x256_S256x256_S16384x256_1_0_0_1_n_n none
              (concatenate S16384x256 1 [⟨S16384x128, addf t g⟩, ⟨S16384x128, x⟩] concatenates_S16384x128_S16384x128_S16384x256_d1) w₁)
              (broadcastInDim S16384x256 ![0, 1] bcast_S1x256_S16384x256_0_1 (broadcastInDim S1x256 ![1] bcast_S256_S1x256_1 b₁)))
              (broadcastInDim S16384x256 ![] bcast_S_S16384x256 (constant S_ .f32 0x00000000#32))) w₂)
            (broadcastInDim S16384x128 ![0, 1] bcast_S1x128_S16384x128_0_1 (broadcastInDim S1x128 ![1] bcast_S128_S1x128_1 b₂)))
            (broadcastInDim S16384x128 ![] bcast_S_S16384x128 (constant S_ .f32 0x00000000#32))) w₃)
          (broadcastInDim S16384x64 ![0, 1] bcast_S1x64_S16384x64_0_1 (broadcastInDim S1x64 ![1] bcast_S64_S1x64_1 b₃)))
          (broadcastInDim S16384x64 ![] bcast_S_S16384x64 (constant S_ .f32 0x00000000#32))) w₄)
        (broadcastInDim S16384x1 ![0, 1] bcast_S1x1_S16384x1_0_1 (broadcastInDim S1x1 ![1] bcast_S1_S1x1_1 b₄))))))

theorem tail_apply (t g x : FVec Ideal S16384x128 .f32) (w₁ : FVec Ideal S256x256 .f32) (b₁ : FVec Ideal S256 .f32) (w₂ : FVec Ideal S256x128 .f32)
    (b₂ : FVec Ideal S128 .f32) (w₃ : FVec Ideal S128x64 .f32) (b₃ : FVec Ideal S64 .f32) (w₄ : FVec Ideal S64x1 .f32) (b₄ : FVec Ideal S1 .f32)
    (n : Fin 16384) :
    tail t g x w₁ b₁ w₂ b₂ w₃ b₃ w₄ b₄ (ix2 n 0)
      = net (fun k => t (ix2 n k) + g (ix2 n k)) (fun k => x (ix2 n k)) w₁ b₁ w₂ b₂ w₃ b₃ w₄ b₄ := by
  pointwise [tail]
  rfl

/-- Zero, as each user index. -/
def zeros : IVec S16384 32 := broadcastInDim S16384 ![] bcast_S_S16384 (constantI S_ 32 0#32)

theorem take_user (x : FVec Ideal S1x128 .f32) (n : Fin 16384) (k : Fin 128) :
    take gather_S1x128_S16384x1_S16384x128_1_0_n_n_0_1_1128 1#32 0#32 x zeros (ix2 n k) = x (ix2 0 k) :=
  take_apply _ rfl rfl rfl rfl rfl 1#32 (last := 0) rfl (by decide) x _ (fun _ => (by decide : (0#32 : BitVec 32).toNat < 1)) n k

theorem take_item (tab : FVec Ideal S100000x128 .f32) (i : IVec S16384 32) (hi : ∀ j, (i j).toNat < 100000) (n : Fin 16384) (k : Fin 128) :
    take gather_S100000x128_S16384x1_S16384x128_1_0_n_n_0_1_1128 100000#32 99999#32 tab i (ix2 n k) = gath (F := Ideal) i tab (ix2 n k) := by
  refine (take_apply _ rfl rfl rfl rfl rfl 100000#32 (last := 99999) rfl (by decide) tab i (fun r => hi (ix1 r)) n k).trans ?_
  unfold gath
  refine congrArg tab (funext fun a => ?_)
  have e : (fun | 0 => n : S16384.Idx) = ix1 n := funext fun a => match a with | 0 => rfl
  match a with
  | 0 => exact Fin.ext ((Nat.mod_eq_of_lt (hi (ix1 n))).symm.trans (congrArg (fun j => (i j).toNat % 100000) e.symm))
  | 1 => rfl

/-- On indices in range the takes and the tail make `rating`. -/
theorem tail_rating (i : IVec S16384 32) (hi : ∀ j, (i j).toNat < 100000) (g t : FVec Ideal S1x128 .f32) (tab : FVec Ideal S100000x128 .f32)
    (w₁ : FVec Ideal S256x256 .f32) (b₁ : FVec Ideal S256 .f32) (w₂ : FVec Ideal S256x128 .f32) (b₂ : FVec Ideal S128 .f32)
    (w₃ : FVec Ideal S128x64 .f32) (b₃ : FVec Ideal S64 .f32) (w₄ : FVec Ideal S64x1 .f32) (b₄ : FVec Ideal S1 .f32) :
    tail (take gather_S1x128_S16384x1_S16384x128_1_0_n_n_0_1_1128 1#32 0#32 t zeros)
        (take gather_S1x128_S16384x1_S16384x128_1_0_n_n_0_1_1128 1#32 0#32 g zeros)
        (take gather_S100000x128_S16384x1_S16384x128_1_0_n_n_0_1_1128 100000#32 99999#32 tab i) w₁ b₁ w₂ b₂ w₃ b₃ w₄ b₄
      = rating i g t tab w₁ b₁ w₂ b₂ w₃ b₃ w₄ b₄ := by
  funext p
  obtain ⟨n, rfl⟩ : ∃ n : Fin 16384, p = ix2 n 0 := ⟨p 0, (eq_ix2 p).trans (congrArg (ix2 (p 0)) (Subsingleton.elim (α := Fin 1) _ _))⟩
  rw [tail_apply]
  simp only [take_user, take_item tab i hi]
  rfl

/-- The reference is its tail of its three takes, and so `rating` of its arguments. -/
theorem res_rating (m : (ℓ : Loc nD τ sig) → Buf (Elt Ideal) ℓ) (c : Dev nD)
    (hw : ∀ j, ((m ((c.tc : Thread nD τ).loc main_arg0) : IVec S16384 32) j).toNat < 100000) :
    Cert.ReferenceIdeal.Value.res_main_v30 m c
      = rating (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) :=
  tail_rating (m ((c.tc : Thread nD τ).loc main_arg0)) hw (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

end Cert.Proof.Rec.Ref

end
-- ==== Proof.lean ====
module

public import proofs.«01_k».proof.Defs
public import proofs.«01_k».proof.Proof.Frames
public import proofs.«01_k».proof.Proof.KernelValue
public import proofs.«01_k».proof.Proof.RefValue

@[expose] public section

noncomputable section

namespace Cert.Proof

open Idealize.ShloMosaic Idealize.SL.Sem

attribute [local instance] Cert.KernelIdeal.Gen.facts Cert.ReferenceIdeal.Gen.facts Cert.Pre_in_range.Gen.facts

/-- On the same arguments, the indices being rows of the table, the kernel and the reference end with the same ratings. -/
theorem algebraic : Cert.algebraic_KernelIdeal_ReferenceIdeal := fun m ρ m' ρ' hpre hagree => by
  have hin (c : Dev Cert.KernelIdeal.nD) := Rec.lt_of_in_range (F := Ideal) _ (hpre c)
  refine ⟨fun c => Rec.W₄ m c (Proc.devRef .tc Cert.KernelIdeal.main_v4), ?_, ?_⟩
  · exact (θ_run (Cert.KernelIdeal.defs (F := Ideal)) _ _).mono
      (fun r h c => ⟨h.1 c _ (Rec.mem_ucRefs (by decide)), Rec.all_kept m r h c⟩) (Rec.run_main m ρ hin)
  · refine (θ_run (Cert.ReferenceIdeal.defs (F := Ideal)) _ _).mono (fun r h c => ⟨(h c).1.trans ?_, (h c).2⟩)
      (Cert.ReferenceIdeal.Value.run (F := Ideal) m' ρ')
    obtain ⟨e₀, e₁, e₂, e₃, e₄, e₅, e₆, e₇, e₈, e₉, e₁₀, e₁₁⟩ := hagree c
    rw [Rec.Ref.res_rating m' c (fun j => by rw [e₀]; exact hin c j), e₀, e₁, e₂, e₃, e₄, e₅, e₆, e₇, e₈, e₉, e₁₀, e₁₁]
    exact (Rec.result_eq m c).symm

theorem claim : Cert.Claim :=
  ⟨Cert.Kernel.Gen.facts, Cert.KernelIdeal.Gen.facts, Cert.ReferenceIdeal.Gen.facts, Cert.Pre_in_range.Gen.facts,
    Rec.frame_kernel, Rec.frame_kernelIdeal, Rec.frame_reference, trivial, algebraic⟩

end Cert.Proof

end
